-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x4096 : Shape := ⟨3, ![2, 4096, 4096]⟩
abbrev S64x4096 : Shape := ⟨2, ![64, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S2x4096x4096 .f32) (main_arg1 : FVec F S64x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S2x4096x4096 : Shape := ⟨3, ![2, 4096, 4096]⟩
abbrev S64x4096 : Shape := ⟨2, ![64, 4096]⟩
abbrev S8192x4096 : Shape := ⟨2, ![8192, 4096]⟩
abbrev S64x8192 : Shape := ⟨2, ![64, 8192]⟩
abbrev S8x8192 : Shape := ⟨2, ![8, 8192]⟩
abbrev S1x1 : Shape := ⟨2, ![1, 1]⟩
abbrev S1024x4096 : Shape := ⟨2, ![1024, 4096]⟩
abbrev S64x1024 : Shape := ⟨2, ![64, 1024]⟩
abbrev S8x1024 : Shape := ⟨2, ![8, 1024]⟩
abbrev S64x1 : Shape := ⟨2, ![64, 1]⟩
abbrev S1024 : Shape := ⟨1, ![1024]⟩
abbrev S1x1024 : Shape := ⟨2, ![1, 1024]⟩
abbrev S64 : Shape := ⟨1, ![64]⟩
abbrev S1 : Shape := ⟨1, ![1]⟩
abbrev S1x64x1 : Shape := ⟨3, ![1, 64, 1]⟩
abbrev S1x1x1 : Shape := ⟨3, ![1, 1, 1]⟩

abbrev nBuf : Space → Nat
  | .hbm => 9
  | .vmem => 14
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S8192x4096, .f32⟩
  | .hbm, ⟨3, _⟩ => ⟨S64x4096, .bf16⟩
  | .hbm, ⟨4, _⟩ => ⟨S64x8192, .f32⟩
  | .hbm, ⟨5, _⟩ => ⟨S8x8192, .f32⟩
  | .hbm, ⟨6, _⟩ => ⟨S8x8192, .i32⟩
  | .hbm, ⟨7, _⟩ => ⟨S1x1, .f32⟩
  | .hbm, ⟨8, _⟩ => ⟨S1x1, .f32⟩
  | .local _ .vmem, ⟨0, _⟩ => ⟨S1024x4096, .f32⟩
  | .local _ .vmem, ⟨1, _⟩ => ⟨S1024x4096, .f32⟩
  | .local _ .vmem, ⟨2, _⟩ => ⟨S64x4096, .bf16⟩
  | .local _ .vmem, ⟨3, _⟩ => ⟨S64x1024, .f32⟩
  | .local _ .vmem, ⟨4, _⟩ => ⟨S64x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .i32⟩
  | .local _ .vmem, ⟨8, _⟩ => ⟨S8x1024, .i32⟩
  | .local _ .vmem, ⟨9, _⟩ => ⟨S1x1, .f32⟩
  | .local _ .vmem, ⟨10, _⟩ => ⟨S1x1, .f32⟩
  | .local _ .vmem, ⟨11, _⟩ => ⟨S64x1, .f32⟩
  | .local _ .vmem, ⟨12, _⟩ => ⟨S64x1, .f32⟩
  | .local _ .vmem, ⟨13, _⟩ => ⟨S1x1, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v142 : BitVec 1 := Scalar.cmpi .eq arg0 c7_i32
  let v143 : BitVec 32 := Scalar.extui v142
  let c0_i32_51 : BitVec 32 := 0#32
  let v144 : BitVec 1 := Scalar.cmpi .ne v143 c0_i32_51
  v144

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x4096x4096 : Shape := ⟨3, ![2, 4096, 4096]⟩
abbrev S64x4096 : Shape := ⟨2, ![64, 4096]⟩
abbrev S8192x4096 : Shape := ⟨2, ![8192, 4096]⟩
abbrev S4096x64 : Shape := ⟨2, ![4096, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x8 : Shape := ⟨2, ![8192, 8]⟩
abbrev S8192x8x1 : Shape := ⟨3, ![8192, 8, 1]⟩
abbrev S1x1x64 : Shape := ⟨3, ![1, 1, 64]⟩
abbrev S8192x8x64 : Shape := ⟨3, ![8192, 8, 64]⟩
abbrev S64 : Shape := ⟨1, ![64]⟩
abbrev S64x8192 : Shape := ⟨2, ![64, 8192]⟩
abbrev S8x8192 : Shape := ⟨2, ![8, 8192]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S8192x4096, .f32⟩
  | .hbm, ⟨3, _⟩ => ⟨S4096x64, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S8192x8, .f32⟩
  | .hbm, ⟨20, _⟩ => ⟨S8192x8, .i32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8, .f32⟩
  | .hbm, ⟨25, _⟩ => ⟨S8192x8, .f32⟩
  | .hbm, ⟨26, _⟩ => ⟨S8192x8x1, .i32⟩
  | .hbm, ⟨27, _⟩ => ⟨S1x1x64, .i32⟩
  | .hbm, ⟨28, _⟩ => ⟨S8192x8x64, .i32⟩
  | .hbm, ⟨29, _⟩ => ⟨S8192x8x64, .i32⟩
  | .hbm, ⟨30, _⟩ => ⟨S8192x8x64, .i1⟩
  | .hbm, ⟨31, _⟩ => ⟨S8192x8x64, .f32⟩
  | .hbm, ⟨32, _⟩ => ⟨S_, .f32⟩
  | .hbm, ⟨33, _⟩ => ⟨S8192x64, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x64, .f32⟩
  | .hbm, ⟨55, _⟩ => ⟨S8192x64, .f32⟩
  | .hbm, ⟨56, _⟩ => ⟨S8192x64, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S64x8192, .f32⟩
  | .hbm, ⟨70, _⟩ => ⟨S8x8192, .f32⟩
  | .hbm, ⟨71, _⟩ => ⟨S8x8192, .i32⟩
  | .hbm, ⟨72, _⟩ => ⟨S1x1, .f32⟩
  | .hbm, ⟨73, _⟩ => ⟨S1x1, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_cst_10 : Ref sig .tc := ⟨.hbm, 49, rfl⟩
abbrev main_v29 : Ref sig .tc := ⟨.hbm, 50, rfl⟩
abbrev main_cst_11 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_13 : Ref sig .tc := ⟨.hbm, 63, rfl⟩
abbrev main_v40 : Ref sig .tc := ⟨.hbm, 64, rfl⟩
abbrev main_cst_14 : Ref sig .tc := ⟨.hbm, 65, rfl⟩
abbrev main_v41 : Ref sig .tc := ⟨.hbm, 66, rfl⟩
abbrev main_cst_15 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.Rounds.lean ====
/-
  Picking the greatest entries of a column one after another is the stable sort's prefix.
  A column is a function on `Fin (n + 1)` with values in the extended reals. One round takes the first row that holds
  the column's maximum and then overwrites it with `-1`. On a column without negative entries the first rounds pick, in
  order, the rows that the stable sort by "greater value first" puts first.
-/
module

public import Idealize.ShloMosaic.Lib.SortPrefix
public import Mathlib.Data.EReal.Operations

@[expose] public section

noncomputable section

namespace Cert.Router

open Idealize.ShloMosaic

variable {n : Nat}

/-- The greatest entry of a column. -/
def colMax (x : Fin n → EReal) : EReal := Finset.univ.sup x

/-- A column with a row has a first row that holds the maximum. -/
theorem exists_pick (x : Fin (n + 1) → EReal) : ∃ i, x i = colMax x ∧ ∀ j, x j = colMax x → i ≤ j := by
  obtain ⟨i0, -, h0⟩ := Finset.exists_mem_eq_sup Finset.univ Finset.univ_nonempty x
  have hne : (Finset.univ.filter fun i => x i = colMax x).Nonempty := ⟨i0, by simp [colMax, h0]⟩
  refine ⟨(Finset.univ.filter fun i => x i = colMax x).min' hne, ?_, fun j hj => ?_⟩
  · exact (Finset.mem_filter.mp (Finset.min'_mem _ hne)).2
  · exact Finset.min'_le _ _ (by simp [hj])

/-- The first row that holds the column's maximum. -/
def pick (x : Fin (n + 1) → EReal) : Fin (n + 1) := (exists_pick x).choose

/-- The picked place takes the maximum. -/
theorem pick_eq (x : Fin (n + 1) → EReal) : x (pick x) = colMax x := (exists_pick x).choose_spec.1

/-- No earlier place takes the maximum. -/
theorem pick_le (x : Fin (n + 1) → EReal) (j : Fin (n + 1)) (h : x j = colMax x) : pick x ≤ j :=
  (exists_pick x).choose_spec.2 j h

/-- Every entry is at most the maximum. -/
theorem le_colMax (x : Fin n → EReal) (j : Fin n) : x j ≤ colMax x := Finset.le_sup (Finset.mem_univ j)

/-- The column after a round: the picked row holds `-1`. -/
def next (x : Fin (n + 1) → EReal) : Fin (n + 1) → EReal := fun i => if i = pick x then -1 else x i

/-- The column after `r` rounds. -/
def rem (p : Fin (n + 1) → EReal) : Nat → Fin (n + 1) → EReal
  | 0 => p
  | r + 1 => next (rem p r)

/-- The row that round `r` picks. -/
def sel (p : Fin (n + 1) → EReal) (r : Nat) : Fin (n + 1) := pick (rem p r)

/-- After `r` rounds the rows picked so far hold `-1` and the others their own entry. -/
theorem rem_apply (p : Fin (n + 1) → EReal) (r : Nat) (i : Fin (n + 1)) :
    rem p r i = if ∃ s < r, sel p s = i then -1 else p i := by
  induction r with
  | zero => simp [rem]
  | succ r ih =>
    simp only [rem, next]
    by_cases h : i = pick (rem p r)
    · rw [if_pos h, if_pos ⟨r, Nat.lt_succ_self r, h.symm⟩]
    · rw [if_neg h, ih]
      refine if_congr ⟨fun ⟨s, hs, e⟩ => ⟨s, Nat.lt_succ_of_lt hs, e⟩, fun ⟨s, hs, e⟩ => ?_⟩ rfl rfl
      rcases Nat.lt_succ_iff_lt_or_eq.mp hs with hs | rfl
      · exact ⟨s, hs, e⟩
      · exact absurd e.symm h

/-- Minus one is negative. -/
theorem neg_one_lt_zero : (-1 : EReal) < 0 := by
  rw [← EReal.coe_one, ← EReal.coe_neg, ← EReal.coe_zero, EReal.coe_lt_coe_iff]; norm_num

variable (p : Fin (n + 1) → EReal) (hp : ∀ i, 0 ≤ p i)
include hp

/-- While a row is left, a round picks a row that no round before it has picked. -/
theorem sel_new (r : Nat) (hr : r < n + 1) : ∀ s < r, sel p s ≠ sel p r := by
  intro s hs e
  have hcard : ((Finset.range r).image (sel p)).card < (Finset.univ : Finset (Fin (n + 1))).card := by
    refine lt_of_le_of_lt Finset.card_image_le ?_
    simpa using hr
  obtain ⟨j, -, hj⟩ := Finset.exists_mem_notMem_of_card_lt_card hcard
  have hj' : ¬ ∃ s < r, sel p s = j := fun ⟨s, hs, e⟩ =>
    hj (Finset.mem_image.mpr ⟨s, Finset.mem_range.mpr hs, e⟩)
  have h1 : rem p r j = p j := by rw [rem_apply, if_neg hj']
  have h2 : rem p r (sel p r) = -1 := by rw [rem_apply, if_pos ⟨s, hs, e⟩]
  have h3 : rem p r j ≤ rem p r (sel p r) := by
    unfold sel; rw [pick_eq (rem p r)]; exact le_colMax _ j
  rw [h1, h2] at h3
  exact absurd (lt_of_le_of_lt ((hp j).trans h3) neg_one_lt_zero) (lt_irrefl _)

/-- Rounds that differ pick different rows. -/
theorem sel_injOn {r s : Nat} (hr : r < n + 1) (hs : s < n + 1) (h : sel p r = sel p s) : r = s := by
  rcases lt_trichotomy r s with hlt | e | hlt
  · exact absurd h (sel_new p hp s hs r hlt)
  · exact e
  · exact absurd h.symm (sel_new p hp r hr s hlt)

/-- The maximum that round `r` finds is the entry of the row it picks. -/
theorem colMax_rem (r : Nat) (hr : r < n + 1) : colMax (rem p r) = p (sel p r) := by
  have h : rem p r (sel p r) = colMax (rem p r) := pick_eq _
  rw [← h, rem_apply, if_neg]
  rintro ⟨s, hs, e⟩
  exact sel_new p hp r hr s hs e

/-- A row holds a negative entry after `r` rounds exactly when one of them has picked it. -/
theorem rem_neg_iff (r : Nat) (i : Fin (n + 1)) : rem p r i < 0 ↔ ∃ s < r, sel p s = i := by
  rw [rem_apply]
  by_cases h : ∃ s < r, sel p s = i
  · rw [if_pos h]; exact ⟨fun _ => h, fun _ => neg_one_lt_zero⟩
  · rw [if_neg h]; exact ⟨fun hlt => absurd hlt (not_lt.mpr (hp i)), fun hh => absurd hh h⟩

omit hp in
/-- "Greater value first, of equal values the lower row first" is a strict total order on the rows. -/
theorem total_before : StrictTotalBefore fun k k' : Fin (n + 1) =>
    decide (p k' < p k) || (decide (p k = p k') && decide (k < k')) :=
  StrictTotalBefore.of_key_then_position (fun a b : EReal => decide (b < a)) p (fun a => by simp)
    (fun a b c h1 h2 => by
      simp only [decide_eq_true_eq] at *; exact lt_trans h2 h1)
    (fun a b => by
      simp only [decide_eq_true_eq]
      rcases lt_trichotomy a b with h | h | h
      · exact Or.inr (Or.inr h)
      · exact Or.inr (Or.inl h)
      · exact Or.inl h)

omit hp in
/-- Inserting a row in front of later rows asks only whether a later row's value is greater. -/
theorem insertBefore_ties (a : Fin (n + 1)) (l : List (Fin (n + 1))) (hl : ∀ b ∈ l, a < b) :
    insertBefore (fun k k' => decide (p k' < p k)) a l
      = insertBefore (fun k k' => decide (p k' < p k) || (decide (p k = p k') && decide (k < k'))) a l := by
  induction l with
  | nil => rfl
  | cons b l ih =>
    have hab : a < b := hl b (by simp)
    have hba : decide (b < a) = false := decide_eq_false (not_lt.mpr hab.le)
    simp only [insertBefore, hba, Bool.and_false, Bool.or_false, ih (fun c hc => hl c (by simp [hc]))]

omit hp in
/-- The stable sort of rows listed upwards breaks its ties by the row number. -/
theorem stableSort_ties (l : List (Fin (n + 1))) (hl : l.Pairwise (· < ·)) :
    stableSort (fun k k' => decide (p k' < p k)) l
      = stableSort (fun k k' => decide (p k' < p k) || (decide (p k = p k') && decide (k < k'))) l := by
  induction l with
  | nil => rfl
  | cons a l ih =>
    rw [List.pairwise_cons] at hl
    simp only [stableSort, ih hl.2]
    exact insertBefore_ties p a _ fun b hb => hl.1 b ((perm_stableSort _ l).mem_iff.mp hb)

omit hp in
/-- The sort of a column breaks its ties by the row number. -/
theorem sortedFrom_ties (k : Fin (n + 1)) :
    sortedFrom (fun k k' => decide (p k' < p k)) k
      = sortedFrom (fun k k' => decide (p k' < p k) || (decide (p k = p k') && decide (k < k'))) k := by
  have h : sortPositions (n + 1) (fun k k' => decide (p k' < p k))
      = sortPositions (n + 1) (fun k k' => decide (p k' < p k) || (decide (p k = p k') && decide (k < k'))) :=
    stableSort_ties p _ (List.pairwise_lt_finRange (n + 1))
  unfold sortedFrom
  simp only [List.get_eq_getElem, Fin.val_cast, h]

/-- The stable sort by "greater value first" puts at place `r` the row that round `r` picks. -/
theorem sortedFrom_eq_sel (k : Fin (n + 1)) :
    sortedFrom (fun k k' => decide (p k' < p k)) k = sel p k.val := by
  rw [sortedFrom_ties]
  have hk : k.val + 1 ≤ n + 1 := k.isLt
  have hmax : ∀ (r : Nat), r < n + 1 → ∀ q, (∀ s < r, sel p s ≠ q) →
      (decide (p (sel p r) < p q) || (decide (p q = p (sel p r)) && decide (q < sel p r))) = false := by
    intro r hr q hq
    have hrem : rem p r q = p q := by
      rw [rem_apply, if_neg]; rintro ⟨s, hs, e⟩; exact hq s hs e
    have hle : p q ≤ p (sel p r) := by
      rw [← colMax_rem p hp r hr, ← hrem]; exact le_colMax _ q
    rw [Bool.or_eq_false_iff]
    refine ⟨decide_eq_false (not_lt.mpr hle), ?_⟩
    by_cases e : p q = p (sel p r)
    · have : sel p r ≤ q := pick_le _ q (by rw [hrem, e, colMax_rem p hp r hr])
      rw [decide_eq_false (not_lt.mpr this), Bool.and_false]
    · rw [decide_eq_false e, Bool.false_and]
  have h := (total_before p).sortedFrom_eq_of_prefix hk (fun i : Fin (k.val + 1) => sel p i.val)
    (fun i j e => Fin.ext (sel_injOn p hp (by omega) (by omega) e))
    (fun i j hij => hmax i.val (by omega) _ fun s hs e => by
      have := sel_injOn p hp (by omega) (by omega) e
      have := Fin.lt_def.mp hij
      omega)
    (fun i q hq => hmax i.val (by omega) q fun s hs e => hq ⟨s, by omega⟩ e) (Fin.last k.val)
  exact h

end Cert.Router

end
-- ==== Proof.Column.lean ====
/-
  One token's column over the extended reals: the softmax of its logits, the logarithm of their exponentials' sum, and
  the small facts about real values that the routing needs.
-/
module

public import proofs.«01_k».proof.Proof.Rounds
public import Idealize.ShloMosaic.PureOps.Ideal
public import Idealize.ShloMosaic.Lib.IdealHost

@[expose] public section

noncomputable section

namespace Cert.Router

open Idealize.ShloMosaic

/-! ### Real values -/

/-- An extended real that is a real number. -/
def IsReal (x : EReal) : Prop := ∃ r : ℝ, x = (r : EReal)

/-- A sum of two reals is real. -/
theorem IsReal.add {x y : EReal} (hx : IsReal x) (hy : IsReal y) : IsReal (x + y) := by
  obtain ⟨a, rfl⟩ := hx; obtain ⟨b, rfl⟩ := hy; exact ⟨a + b, by norm_cast⟩

/-- A product of two reals is real. -/
theorem IsReal.mul {x y : EReal} (hx : IsReal x) (hy : IsReal y) : IsReal (x * y) := by
  obtain ⟨a, rfl⟩ := hx; obtain ⟨b, rfl⟩ := hy; exact ⟨a * b, by norm_cast⟩

/-- Zero is real. -/
theorem isReal_zero : IsReal 0 := ⟨0, rfl⟩

/-- One is real. -/
theorem isReal_one : IsReal 1 := ⟨1, rfl⟩

/-- A finite sum of reals is real. -/
theorem IsReal.sum {ι : Type} (s : Finset ι) {f : ι → EReal} (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- An extended real strictly between the two infinities is real. -/
theorem isReal_of_lt {x : EReal} (h1 : x < ⊤) (h2 : ⊥ < x) : IsReal x :=
  ⟨x.toReal, (EReal.coe_toReal h1.ne h2.ne').symm⟩

/-- The absolute value, taken as the greater of `x` and `-x`, is below infinity only at a real number. -/
theorem isReal_of_abs_lt {x : EReal} (h : max x (-x) < ⊤) : IsReal x := by
  have h1 := lt_of_le_of_lt (le_max_left x (-x)) h
  have h2 := lt_of_le_of_lt (le_max_right x (-x)) h
  refine isReal_of_lt h1 ?_
  rw [bot_lt_iff_ne_bot]
  rintro rfl
  simp at h2

/-! ### Softmax of a column -/

variable {n : Nat}

/-- The exponentials of a column after its maximum is taken off. -/
def expo (l : Fin n → EReal) (e : Fin n) : EReal := Ideal.exp (l e - colMax l)

/-- Their sum. -/
def den (l : Fin n → EReal) : EReal := ∑ e, expo l e

/-- The softmax of the column. -/
def prob (l : Fin n → EReal) (e : Fin n) : EReal := Ideal.div (expo l e) (den l)

/-- The logarithm of the sum of exponentials. -/
def lse (l : Fin n → EReal) : EReal := colMax l + Ideal.log (den l)

/-- The maximum of a column of reals is real. -/
theorem isReal_colMax {l : Fin (n + 1) → EReal} (h : ∀ e, IsReal (l e)) : IsReal (colMax l) := by
  rw [← pick_eq l]; exact h _

/-- The shifted exponential of a column of reals is a positive real. -/
theorem expo_pos {l : Fin (n + 1) → EReal} (h : ∀ e, IsReal (l e)) (e : Fin (n + 1)) :
    ∃ r : ℝ, 0 < r ∧ expo l e = (r : EReal) := by
  obtain ⟨a, ha⟩ := h e
  obtain ⟨m, hm⟩ := isReal_colMax h
  refine ⟨Real.exp (a - m), Real.exp_pos _, ?_⟩
  rw [expo, ha, hm, ← EReal.coe_sub]
  rfl

/-- The softmax denominator of a column of reals is a positive real. -/
theorem den_pos {l : Fin (n + 1) → EReal} (h : ∀ e, IsReal (l e)) : ∃ r : ℝ, 0 < r ∧ den l = (r : EReal) := by
  choose r hr he using expo_pos h
  refine ⟨∑ e, r e, Finset.sum_pos (fun e _ => hr e) Finset.univ_nonempty, ?_⟩
  rw [den, Finset.sum_congr rfl fun e _ => he e]
  exact (map_sum (⟨⟨Real.toEReal, rfl⟩, EReal.coe_add⟩ : ℝ →+ EReal) r Finset.univ).symm

/-- The softmax of a column of reals is a nonnegative real. -/
theorem prob_real {l : Fin (n + 1) → EReal} (h : ∀ e, IsReal (l e)) (e : Fin (n + 1)) :
    ∃ r : ℝ, 0 ≤ r ∧ prob l e = (r : EReal) := by
  obtain ⟨a, ha, hea⟩ := expo_pos h e
  obtain ⟨d, hd, hed⟩ := den_pos h
  refine ⟨a * d⁻¹, by positivity, ?_⟩
  rw [prob, hea, hed, Ideal.div, if_neg (by exact_mod_cast hd.ne'), ← EReal.coe_inv, ← EReal.coe_mul]

/-- The softmax of a column of reals isn't negative. -/
theorem prob_nonneg {l : Fin (n + 1) → EReal} (h : ∀ e, IsReal (l e)) (e : Fin (n + 1)) : 0 ≤ prob l e := by
  obtain ⟨r, hr, he⟩ := prob_real h e
  rw [he]; exact_mod_cast hr

/-- The softmax of a column of reals is real. -/
theorem isReal_prob {l : Fin (n + 1) → EReal} (h : ∀ e, IsReal (l e)) (e : Fin (n + 1)) : IsReal (prob l e) :=
  (prob_real h e).imp fun _ h => h.2

/-- The log-sum-exp of a column of reals is real. -/
theorem isReal_lse {l : Fin (n + 1) → EReal} (h : ∀ e, IsReal (l e)) : IsReal (lse l) := by
  obtain ⟨d, hd, hed⟩ := den_pos h
  refine (isReal_colMax h).add ⟨Real.log d, ?_⟩
  rw [hed]
  show (if d ≤ 0 then (⊥ : EReal) else (Real.log d : EReal)) = _
  rw [if_neg (not_le.mpr hd)]

/-! ### The maximum and the index of its first row as folds -/

/-- The fold of `max` from the bottom is the column's maximum. -/
theorem fold_max_eq (x : Fin n → EReal) : Finset.univ.fold max ⊥ x = colMax x := rfl

/-- The least row number among the rows that hold the maximum, every other row counting as 64. -/
theorem fold_min_eq (x : Fin 64 → EReal) :
    Finset.univ.fold min ⊤ (fun e => if x e = colMax x then ((e.val : ℝ) : EReal) else ((64 : ℝ) : EReal))
      = (((pick x).val : ℝ) : EReal) := by
  show Finset.univ.inf (fun e => if x e = colMax x then ((e.val : ℝ) : EReal) else ((64 : ℝ) : EReal)) = _
  apply le_antisymm
  · refine (Finset.inf_le (Finset.mem_univ (pick x))).trans ?_
    rw [if_pos (pick_eq x)]
  · refine Finset.le_inf fun e _ => ?_
    split
    · next h => exact_mod_cast pick_le x e h
    · exact_mod_cast (pick x).isLt.le

/-! ### Row numbers as words -/

/-- A number below 64 as a 32-bit word, read signed, is itself. -/
theorem toInt_ofNat_small {k : Nat} (h : k < 64) : (BitVec.ofNat 32 k).toInt = (k : Int) := by
  rw [BitVec.toInt_ofNat']
  rw [Int.bmod_eq_of_le] <;> omega

/-- The word of a small natural number, taken back from the real number. -/
theorem fptosi_small {k : Nat} (h : k < 64) : Ideal.fptosi 32 ((k : ℝ) : EReal) = BitVec.ofNat 32 k := by
  show BitVec.ofInt 32 (max _ (min _ (if (0 : ℝ) ≤ (k : ℝ) then ⌊(k : ℝ)⌋ else ⌈(k : ℝ)⌉))) = _
  rw [if_pos (by positivity), Int.floor_natCast]
  rw [min_eq_right (by norm_num; omega), max_eq_right (by norm_num)]
  exact BitVec.ofInt_natCast 32 k

/-- Distinct small numbers give distinct words. -/
theorem ofNat_inj_small {a b : Nat} (ha : a < 64) (hb : b < 64) : BitVec.ofNat 32 a = BitVec.ofNat 32 b ↔ a = b := by
  refine ⟨fun h => ?_, fun h => by rw [h]⟩
  have := congrArg BitVec.toNat h
  simp only [BitVec.toNat_ofNat] at this
  omega

/-! ### The constants -/

/-- The word of minus infinity. -/
theorem ofBits_neg_inf : Ideal.ofBits .f32 0xFF800000#32 = ⊥ := by simp [Ideal.ofBits, Ideal.ieee]

/-- The word of infinity. -/
theorem ofBits_inf : Ideal.ofBits .f32 0x7F800000#32 = ⊤ := by simp [Ideal.ofBits, Ideal.ieee]

/-- The word of 64. -/
theorem ofBits_64 : Ideal.ofBits .f32 0x42800000#32 = ((64 : ℝ) : EReal) := by
  simp [Ideal.ofBits, Ideal.ieee, -EReal.coe_mul]; norm_num

/-- The word of minus one. -/
theorem ofBits_neg_one : Ideal.ofBits .f32 0xBF800000#32 = -1 := by
  have h : Ideal.ofBits .f32 0xBF800000#32 = ((-(1 : ℝ)) : EReal) := by
    simp [Ideal.ofBits, Ideal.ieee, -EReal.coe_mul, -EReal.coe_neg]; norm_num
  rw [h, EReal.coe_one]

/-- The word of 8192. -/
theorem ofBits_8192 : Ideal.ofBits .f32 0x46000000#32 = ((8192 : ℝ) : EReal) := by
  simp [Ideal.ofBits, Ideal.ieee, -EReal.coe_mul]; norm_num

/-- The coefficient of the load-balancing loss, `0.01` rounded to the format. -/
def auxCoef : ℝ := 10737418 / 2 ^ 30

/-- The coefficient of the z-loss, `0.001` rounded to the format. -/
def zCoef : ℝ := 8589935 / 2 ^ 33

/-- The word of the load-balancing coefficient. -/
theorem ofBits_aux : Ideal.ofBits .f32 0x3C23D70A#32 = (auxCoef : EReal) := by
  simp [Ideal.ofBits, Ideal.ieee, auxCoef, -EReal.coe_mul]; norm_num

/-- The word of the z-loss coefficient. -/
theorem ofBits_z : Ideal.ofBits .f32 0x3A83126F#32 = (zCoef : EReal) := by
  simp [Ideal.ofBits, Ideal.ieee, zCoef, -EReal.coe_mul]; norm_num

/-- The kernel's one factor of the load-balancing loss is exactly the reference's three: the divisions are by powers of two. -/
theorem ofBits_aux_scaled : Ideal.ofBits .f32 0x3223D70A#32 = ((64 * auxCoef / 8192 ^ 2 : ℝ) : EReal) := by
  simp [Ideal.ofBits, Ideal.ieee, auxCoef, -EReal.coe_mul]; norm_num

/-- The kernel's one factor of the z-loss is exactly the reference's two. -/
theorem ofBits_z_scaled : Ideal.ofBits .f32 0x3403126F#32 = ((zCoef / 8192 : ℝ) : EReal) := by
  simp [Ideal.ofBits, Ideal.ieee, zCoef, -EReal.coe_mul]; norm_num

/-- Division by a real number other than zero is multiplication by its inverse. -/
theorem div_coe {x : EReal} {d : ℝ} (hd : d ≠ 0) : Ideal.div x (d : EReal) = x * ((d⁻¹ : ℝ) : EReal) := by
  rw [Ideal.div, if_neg (by exact_mod_cast hd), EReal.coe_inv]

/-! ### The losses from the sums -/

/-- The load-balancing loss from the counts and the sums of probabilities: one scaled product of the totals is the
    product of the means, scaled. -/
theorem balance_eq {C P : Fin 64 → EReal} (hC : ∀ e, IsReal (C e)) (hP : ∀ e, IsReal (P e)) :
    (∑ e, C e * P e) * ((64 * auxCoef / 8192 ^ 2 : ℝ) : EReal)
      = ((64 : ℝ) : EReal) * (∑ e, Ideal.div (C e) ((8192 : ℝ) : EReal) * Ideal.div (P e) ((8192 : ℝ) : EReal)) * (auxCoef : EReal) := by
  choose c hc using hC
  choose p hp using hP
  have key : ∀ f : Fin 64 → ℝ, (∑ e, (f e : EReal)) = ((∑ e, f e : ℝ) : EReal) := fun f =>
    (map_sum (⟨⟨Real.toEReal, rfl⟩, EReal.coe_add⟩ : ℝ →+ EReal) f Finset.univ).symm
  have h1 : ∀ e, C e * P e = ((c e * p e : ℝ) : EReal) := fun e => by rw [hc, hp, EReal.coe_mul]
  have h2 : ∀ e, Ideal.div (C e) ((8192 : ℝ) : EReal) * Ideal.div (P e) ((8192 : ℝ) : EReal)
      = (((c e * p e) * (8192 ^ 2)⁻¹ : ℝ) : EReal) := fun e => by
    rw [hc, hp, div_coe (by norm_num), div_coe (by norm_num), ← EReal.coe_mul, ← EReal.coe_mul, ← EReal.coe_mul]
    congr 1; ring
  rw [Finset.sum_congr rfl fun e _ => h1 e, Finset.sum_congr rfl fun e _ => h2 e, key, key, ← Finset.sum_mul,
    ← EReal.coe_mul, ← EReal.coe_mul, ← EReal.coe_mul]
  congr 1; ring

/-- The z-loss from the sum of squares. -/
theorem zloss_eq {S : EReal} (hS : IsReal S) :
    S * ((zCoef / 8192 : ℝ) : EReal) = Ideal.div S ((8192 : ℝ) : EReal) * (zCoef : EReal) := by
  obtain ⟨s, rfl⟩ := hS
  rw [div_coe (by norm_num), ← EReal.coe_mul, ← EReal.coe_mul, ← EReal.coe_mul]
  congr 1; ring

end Cert.Router
-- ==== Proof.Block.lean ====
/-
  One block of the kernel at an index: the softmax of the block's logits, the eight rounds of taking the greatest
  entry, and the sums over the block's tokens.
-/
module

public import proofs.«01_k».proof.Proof.Gen.KernelIdeal.Skeleton
public import proofs.«01_k».proof.Proof.Column
public import Idealize.ShloMosaic.Lib.Pointwise

@[expose] public section

set_option synthInstance.maxSize 4096
set_option maxRecDepth 16384

noncomputable section

namespace Cert.KernelIdeal.Block

open Idealize.ShloMosaic Idealize.SL.Sem Cert.KernelIdeal Cert.KernelIdeal.Gen Cert.Router

/-! ### The softmax -/

/-- The logits of the block's token `j`, one for every expert. -/
def logit (w : Vec Ideal S64x4096 .bf16) (x : Vec Ideal S1024x4096 .f32) (j : Fin 1024) (e : Fin 64) : EReal :=
  ∑ k : Fin 4096, w (ix2 e k) * x (ix2 j k)

variable (w : Vec Ideal S64x4096 .bf16) (x : Vec Ideal S1024x4096 .f32)

/-- The contraction's entry is the logit of the expert on the row and the token in the lane. -/
theorem pay12_at (e : Fin 64) (j : Fin 1024) : k0_pay12 (F := Ideal) w x (ix2 e j) = logit w x j e := by
  unfold logit
  pointwise [k0_pay12]

/-- The column maximum is the greatest logit of the token. -/
theorem pay13_at (j : Fin 1024) : k0_pay13 (F := Ideal) w x (ix2 0 j) = colMax (logit w x j) := by
  have h : k0_pay13 (F := Ideal) w x (ix2 0 j)
      = Finset.univ.fold max (Ideal.ofBits .f32 0xFF800000#32) (fun e : Fin 64 => k0_pay12 (F := Ideal) w x (ix2 e j)) := by
    pointwise [k0_pay13]
  rw [h, ofBits_neg_inf, fold_max_eq]
  exact congrArg colMax (funext fun e => pay12_at w x e j)

/-- The exponential, with the greatest logit taken off. -/
theorem pay14_at (e : Fin 64) (j : Fin 1024) : k0_pay14 (F := Ideal) w x (ix2 e j) = expo (logit w x j) e := by
  have h : k0_pay14 (F := Ideal) w x (ix2 e j)
      = Ideal.exp (k0_pay12 (F := Ideal) w x (ix2 e j) - k0_pay13 (F := Ideal) w x (ix2 0 j)) := by
    pointwise [k0_pay14]
  rw [h, pay12_at, pay13_at, expo]

/-- The softmax denominator. -/
theorem pay15_at (j : Fin 1024) : k0_pay15 (F := Ideal) w x (ix2 0 j) = den (logit w x j) := by
  have h : k0_pay15 (F := Ideal) w x (ix2 0 j) = ∑ e : Fin 64, k0_pay14 (F := Ideal) w x (ix2 e j) := by
    pointwise [k0_pay15]
  rw [h, den]
  exact Finset.sum_congr rfl fun e _ => pay14_at w x e j

/-- The block of probabilities holds the softmax of each token's logits. -/
theorem pay16_at (e : Fin 64) (j : Fin 1024) : k0_pay16 (F := Ideal) w x (ix2 e j) = prob (logit w x j) e := by
  have h : k0_pay16 (F := Ideal) w x (ix2 e j)
      = Ideal.div (k0_pay14 (F := Ideal) w x (ix2 e j)) (k0_pay15 (F := Ideal) w x (ix2 0 j)) := by
    pointwise [k0_pay16]
  rw [h, pay14_at, pay15_at, prob]

/-! ### The rounds -/

/-- Column `j` of a block. -/
def col (R : FVec Ideal S64x1024 .f32) (j : Fin 1024) (e : Fin 64) : EReal := R (ix2 e j)

/-- A column of the block of probabilities is the softmax of that token. -/
theorem col_pay16 (j : Fin 1024) : col (k0_pay16 (F := Ideal) w x) j = prob (logit w x j) :=
  funext fun e => pay16_at w x e j

/-- The maximum of every column. -/
def rowMax (R : FVec Ideal S64x1024 .f32) : FVec Ideal S1x1024 .f32 :=
  shapeCast S1x1024 (multiReduction .maximumf [0] S1024 R 0xFF800000#32 reduces_S64x1024_S1024 (.inl rfl) rfl)
    shapeCasts_S1024_S1x1024

/-- The number, as a float, of the first row that holds the maximum of every column. -/
def rowIdx (R : FVec Ideal S64x1024 .f32) : FVec Ideal S1x1024 .f32 :=
  shapeCast S1x1024
    (multiReduction .minimumf [0] S1024
      (select (cmpf .oeq R (broadcastTo S64x1024 (rowMax R) broadcasts_S1x1024_S64x1024)) (k0_pay17 (F := Ideal))
        (broadcast S64x1024 (Scalar.ofBits .f32 0x42800000#32)))
      0x7F800000#32 reduces_S64x1024_S1024 (.inl rfl) rfl)
    shapeCasts_S1024_S1x1024

/-- The block after a round: in every column the picked row holds `-1`. -/
def knock (R : FVec Ideal S64x1024 .f32) : FVec Ideal S64x1024 .f32 :=
  select (cmpf .oeq (k0_pay17 (F := Ideal)) (broadcastTo S64x1024 (rowIdx R) broadcasts_S1x1024_S64x1024))
    (broadcast S64x1024 (Scalar.ofBits .f32 0xBF800000#32)) R

/-- The row numbers, as floats. -/
theorem pay17_at (e : Fin 64) (j : Fin 1024) : k0_pay17 (F := Ideal) (ix2 e j) = ((e.val : ℝ) : EReal) := by
  have h : k0_pay17 (F := Ideal) (ix2 e j) = (((BitVec.ofNat 32 e.val).toInt : ℝ) : EReal) := by
    pointwise [k0_pay17]
    rfl
  rw [h, toInt_ofNat_small e.isLt]
  norm_cast

/-- The row of maxima holds the maximum of every column. -/
theorem rowMax_at (R : FVec Ideal S64x1024 .f32) (j : Fin 1024) : rowMax R (ix2 0 j) = colMax (col R j) := by
  have h : rowMax R (ix2 0 j)
      = Finset.univ.fold max (Ideal.ofBits .f32 0xFF800000#32) (fun e : Fin 64 => R (ix2 e j)) := by
    pointwise [rowMax]
  rw [h, ofBits_neg_inf]
  exact fold_max_eq _

/-- The row of positions holds the first row at which a column takes its maximum. -/
theorem rowIdx_at (R : FVec Ideal S64x1024 .f32) (j : Fin 1024) :
    rowIdx R (ix2 0 j) = (((pick (col R j)).val : ℝ) : EReal) := by
  have h : rowIdx R (ix2 0 j)
      = Finset.univ.fold min (Ideal.ofBits .f32 0x7F800000#32) (fun e : Fin 64 =>
          if R (ix2 e j) = rowMax R (ix2 0 j) then k0_pay17 (F := Ideal) (ix2 e j) else Ideal.ofBits .f32 0x42800000#32) := by
    pointwise [rowIdx]
  rw [h, ofBits_inf, ofBits_64, rowMax_at]
  simp only [pay17_at]
  exact fold_min_eq (col R j)

/-- Knocking out puts minus one where a column takes its maximum first, and keeps the rest. -/
theorem knock_at (R : FVec Ideal S64x1024 .f32) (e : Fin 64) (j : Fin 1024) :
    knock R (ix2 e j) = next (col R j) e := by
  have h : knock R (ix2 e j)
      = if k0_pay17 (F := Ideal) (ix2 e j) = rowIdx R (ix2 0 j) then Ideal.ofBits .f32 0xBF800000#32 else R (ix2 e j) := by
    pointwise [knock]
  rw [h, ofBits_neg_one, rowIdx_at, pay17_at, next]
  have hiff : (((e.val : ℝ) : EReal) = (((pick (col R j)).val : ℝ) : EReal)) ↔ e = pick (col R j) := by
    rw [EReal.coe_eq_coe_iff, Nat.cast_inj, Fin.val_inj]
  simp only [hiff]
  rfl

/-- The block after `r` rounds. -/
def knocked (R : FVec Ideal S64x1024 .f32) : Nat → FVec Ideal S64x1024 .f32
  | 0 => R
  | r + 1 => knock (knocked R r)

/-- A column after `r` rounds on the block is that column after `r` rounds. -/
theorem col_knocked (R : FVec Ideal S64x1024 .f32) (r : Nat) (j : Fin 1024) :
    col (knocked R r) j = rem (col R j) r := by
  induction r with
  | zero => rfl
  | succ r ih =>
    have h1 : knocked R (r + 1) = knock (knocked R r) := rfl
    have h2 : rem (col R j) (r + 1) = next (rem (col R j) r) := rfl
    rw [h1, h2, ← ih]
    exact funext fun e => knock_at _ e j

/-- The maximum found by round `r`, column by column. -/
theorem rowMax_knocked (R : FVec Ideal S64x1024 .f32) (r : Nat) (j : Fin 1024) :
    rowMax (knocked R r) (ix2 0 j) = colMax (rem (col R j) r) := by
  rw [rowMax_at, col_knocked]

/-- The row found by round `r`, column by column, as a float. -/
theorem rowIdx_knocked (R : FVec Ideal S64x1024 .f32) (r : Nat) (j : Fin 1024) :
    rowIdx (knocked R r) (ix2 0 j) = (((sel (col R j) r).val : ℝ) : EReal) := by
  rw [rowIdx_at, col_knocked, sel]

/-! ### The kernel's values as rounds -/

/-- One more round is one more knocking out. -/
theorem knocked_succ (R : FVec Ideal S64x1024 .f32) (r : Nat) : knocked R (r + 1) = knock (knocked R r) := rfl

-- Each of the kernel's named values, as maxima, rows and knock-outs of the block that it starts from.

theorem pay18_eq : k0_pay18 (F := Ideal) w x = rowMax (k0_pay16 w x) := rfl
theorem pay19_eq : k0_pay19 (F := Ideal) w x = rowIdx (k0_pay16 w x) := rfl
theorem pay20_eq : k0_pay20 (F := Ideal) w x = knock (k0_pay16 w x) := rfl
theorem pay21_eq : k0_pay21 (F := Ideal) w x = rowMax (knock (k0_pay16 w x)) := rfl
theorem pay22_eq : k0_pay22 (F := Ideal) w x = rowIdx (knock (k0_pay16 w x)) := rfl
theorem pay23_eq : k0_pay23 (F := Ideal) w x = knock (knock (k0_pay16 w x)) := rfl
theorem pay24_eq : k0_pay24 (F := Ideal) w x = rowMax (knock (knock (k0_pay16 w x))) := rfl

variable (R : FVec Ideal S64x1024 .f32)

theorem pay25_eq : k0_pay25 (F := Ideal) k0_pay17 R (rowMax R) = rowIdx R := rfl
theorem pay26_eq : k0_pay26 (F := Ideal) k0_pay17 R (rowMax R) = knock R := rfl
theorem pay27_eq : k0_pay27 (F := Ideal) k0_pay17 R (rowMax R) = rowMax (knock R) := rfl
theorem pay28_eq : k0_pay28 (F := Ideal) k0_pay17 R (rowMax R) = rowIdx (knock R) := rfl
theorem pay29_eq : k0_pay29 (F := Ideal) k0_pay17 R (rowMax R) = knock (knock R) := rfl
theorem pay30_eq : k0_pay30 (F := Ideal) k0_pay17 R (rowMax R) = rowMax (knock (knock R)) := rfl
theorem pay31_eq : k0_pay31 (F := Ideal) k0_pay17 R (rowMax R) = rowIdx (knock (knock R)) := rfl
theorem pay32_eq : k0_pay32 (F := Ideal) k0_pay17 R (rowMax R) = knock (knock (knock R)) := rfl
theorem pay33_eq : k0_pay33 (F := Ideal) k0_pay17 R (rowMax R) = rowMax (knock (knock (knock R))) := rfl
theorem pay34_eq : k0_pay34 (F := Ideal) k0_pay17 R (rowMax R) = rowIdx (knock (knock (knock R))) := rfl

/-- The mask of the rows that the sixth round picks. -/
def mask (R : FVec Ideal S64x1024 .f32) : IVec S64x1024 1 :=
  cmpf .oeq (k0_pay17 (F := Ideal)) (broadcastTo S64x1024 (rowIdx R) broadcasts_S1x1024_S64x1024)

theorem pay35_eq : k0_pay35 (F := Ideal) k0_pay17 R (rowMax R) = mask (knock (knock (knock R))) := rfl
theorem pay37_eq : k0_pay37 (F := Ideal) R (mask R) k0_pay36 = knock R := rfl
theorem pay38_eq : k0_pay38 (F := Ideal) R (mask R) k0_pay36 = rowMax (knock R) := rfl
theorem pay39_eq : k0_pay39 (F := Ideal) k0_pay17 R (mask R) k0_pay36 = rowIdx (knock R) := rfl
theorem pay40_eq : k0_pay40 (F := Ideal) k0_pay17 R (mask R) k0_pay36 = knock (knock R) := rfl
theorem pay41_eq : k0_pay41 (F := Ideal) k0_pay17 R (mask R) k0_pay36 = rowMax (knock (knock R)) := rfl
theorem pay42_eq : k0_pay42 (F := Ideal) k0_pay17 R (mask R) k0_pay36 = rowIdx (knock (knock R)) := rfl

/-- Eight rows under each other. -/
def stack8 (f : Nat → FVec Ideal S1x1024 .f32) : FVec Ideal S8x1024 .f32 :=
  concatenate S8x1024 0 [⟨S1x1024, f 0⟩, ⟨S1x1024, f 1⟩, ⟨S1x1024, f 2⟩, ⟨S1x1024, f 3⟩, ⟨S1x1024, f 4⟩, ⟨S1x1024, f 5⟩,
    ⟨S1x1024, f 6⟩, ⟨S1x1024, f 7⟩] concatenates_S1x1024_S1x1024_S1x1024_S1x1024_S1x1024_S1x1024_S1x1024_S1x1024_S8x1024_d0

/-- Row `k` of eight stacked rows is the `k`-th of them. -/
theorem stack8_at (f : Nat → FVec Ideal S1x1024 .f32) (k : Fin 8) (j : Fin 1024) :
    stack8 f (ix2 k j) = f k.val (ix2 0 j) := by
  pointwise [stack8]
  obtain ⟨k, hk⟩ := k
  interval_cases k <;> rfl

/-- The block's routing weights: the eight greatest entries of every column, over their sum. -/
def weights (P : FVec Ideal S64x1024 .f32) : FVec Ideal S8x1024 .f32 :=
  k0_pay43 (F := Ideal) k0_pay17 (rowMax P) (rowMax (knock P)) (rowMax (knock (knock P)))
    (k0_pay27 k0_pay17 (knock (knock P)) (rowMax (knock (knock P))))
    (k0_pay30 k0_pay17 (knock (knock P)) (rowMax (knock (knock P))))
    (k0_pay32 k0_pay17 (knock (knock P)) (rowMax (knock (knock P))))
    (k0_pay33 k0_pay17 (knock (knock P)) (rowMax (knock (knock P))))
    (k0_pay35 k0_pay17 (knock (knock P)) (rowMax (knock (knock P)))) k0_pay36

/-- The block's selected experts: the rows of the eight greatest entries of every column. -/
def experts (P : FVec Ideal S64x1024 .f32) : IVec S8x1024 32 :=
  k0_pay44 (F := Ideal) k0_pay17 (rowIdx P) (rowIdx (knock P))
    (k0_pay25 k0_pay17 (knock (knock P)) (rowMax (knock (knock P))))
    (k0_pay28 k0_pay17 (knock (knock P)) (rowMax (knock (knock P))))
    (k0_pay31 k0_pay17 (knock (knock P)) (rowMax (knock (knock P))))
    (k0_pay32 k0_pay17 (knock (knock P)) (rowMax (knock (knock P))))
    (k0_pay34 k0_pay17 (knock (knock P)) (rowMax (knock (knock P))))
    (k0_pay35 k0_pay17 (knock (knock P)) (rowMax (knock (knock P)))) k0_pay36

/-- The number of the block's tokens that picked each expert. -/
def counts (P : FVec Ideal S64x1024 .f32) : FVec Ideal S64 .f32 :=
  k0_pay45 (F := Ideal) k0_pay17 (k0_pay32 k0_pay17 (knock (knock P)) (rowMax (knock (knock P))))
    (k0_pay35 k0_pay17 (knock (knock P)) (rowMax (knock (knock P)))) k0_pay36

/-- No round leaves the block as it is. -/
theorem knocked_zero (P : FVec Ideal S64x1024 .f32) : knocked P 0 = P := rfl

/-- One knocking out is one round. -/
theorem knocked_one (P : FVec Ideal S64x1024 .f32) : knock P = knocked P 1 := (knocked_succ P 0).symm

/-- The stored weights are the eight found maxima divided by their sum. -/
theorem weights_eq (P : FVec Ideal S64x1024 .f32) :
    weights P = divf (stack8 fun r => rowMax (knocked P r))
      (broadcastTo S8x1024 (shapeCast S1x1024
        (multiReduction .add [0] S1024 (stack8 fun r => rowMax (knocked P r)) 0x00000000#32 reduces_S8x1024_S1024 (.inl rfl) rfl)
        shapeCasts_S1024_S1x1024) broadcasts_S1x1024_S8x1024) := by
  unfold weights
  rw [pay27_eq, pay30_eq, pay32_eq, pay33_eq, pay35_eq]
  unfold k0_pay43
  rw [pay38_eq, pay41_eq]
  rw [knocked_one P]
  simp only [← knocked_succ]
  rfl

/-- The stored experts are the eight found rows as integers. -/
theorem experts_eq (P : FVec Ideal S64x1024 .f32) :
    experts P = fptosi 32 (stack8 fun r => rowIdx (knocked P r)) := by
  unfold experts
  rw [pay25_eq, pay28_eq, pay31_eq, pay32_eq, pay34_eq, pay35_eq]
  unfold k0_pay44
  rw [pay39_eq, pay42_eq]
  rw [knocked_one P]
  simp only [← knocked_succ]
  rfl

/-- A stored weight: what its round found, over the sum of what the eight rounds found. -/
theorem weights_at (P : FVec Ideal S64x1024 .f32) (k : Fin 8) (j : Fin 1024) :
    weights P (ix2 k j)
      = Ideal.div (colMax (rem (col P j) k.val)) (∑ k' : Fin 8, colMax (rem (col P j) k'.val)) := by
  have h : weights P (ix2 k j)
      = Ideal.div (stack8 (fun r => rowMax (knocked P r)) (ix2 k j))
          (∑ k' : Fin 8, stack8 (fun r => rowMax (knocked P r)) (ix2 k' j)) := by
    rw [weights_eq]
    pointwise
  rw [h]
  simp only [stack8_at, rowMax_knocked]

/-- A stored expert: the row its round selected. -/
theorem experts_at (P : FVec Ideal S64x1024 .f32) (k : Fin 8) (j : Fin 1024) :
    experts P (ix2 k j) = BitVec.ofNat 32 (sel (col P j) k.val).val := by
  have h : experts P (ix2 k j) = Ideal.fptosi 32 (stack8 (fun r => rowIdx (knocked P r)) (ix2 k j)) := by
    rw [experts_eq]
    rfl
  rw [h, stack8_at, rowIdx_knocked, fptosi_small (sel (col P j) k.val).isLt]

/-- The counts add up where eight rounds have left a negative entry. -/
theorem counts_eq (P : FVec Ideal S64x1024 .f32) :
    counts P = multiReduction .add [1] S64
      (sitofp .f32 (extui 32 (cmpf .olt (knocked P 8) (broadcast S64x1024 (Scalar.ofBits .f32 0x00000000#32))) natLt_1_32))
      0x00000000#32 reduces_S64x1024_S64 (.inl rfl) rfl := by
  unfold counts
  rw [pay32_eq, pay35_eq]
  unfold k0_pay45
  rw [pay40_eq, pay42_eq]
  rw [knocked_one P]
  simp only [← knocked_succ]
  rfl

/-- The count of expert `e` is the number of lanes whose eight rounds knocked it out. -/
theorem counts_at (P : FVec Ideal S64x1024 .f32) (e : Fin 64) :
    counts P (ix1 e) = ∑ j : Fin 1024, if rem (col P j) 8 e < 0 then (1 : EReal) else 0 := by
  have h : counts P (ix1 e)
      = ∑ j : Fin 1024, FloatOps.sitofp (F := Ideal) .f32
          (BitVec.setWidth 32 (BitVec.ofBool (decide (knocked P 8 (ix2 e j) < 0)))) := by
    rw [counts_eq]
    generalize knocked P 8 = K
    pointwise
  rw [h]
  refine Finset.sum_congr rfl fun j _ => ?_
  have hk : knocked P 8 (ix2 e j) = rem (col P j) 8 e := congrFun (col_knocked P 8 j) e
  rw [hk]
  show (((BitVec.setWidth 32 (BitVec.ofBool (decide (rem (col P j) 8 e < 0)))).toInt : ℝ) : EReal) = _
  by_cases hc : rem (col P j) 8 e < 0
  · rw [if_pos hc, decide_eq_true hc]
    simp
  · rw [if_neg hc, decide_eq_false hc]
    simp

/-! ### The sums over the block's tokens -/

/-- A vector of 64 as a column. -/
theorem pay1_at (v : FVec Ideal S64 .f32) (e : Fin 64) : k0_pay1 (F := Ideal) v (ix2 e 0) = v (ix1 e) := by
  pointwise [k0_pay1]

/-- The sum of the probabilities over the lanes, as a column. -/
theorem pay2_at (P : FVec Ideal S64x1024 .f32) (e : Fin 64) :
    k0_pay2 (F := Ideal) P (ix2 e 0) = ∑ j : Fin 1024, P (ix2 e j) := by
  pointwise [k0_pay2]

/-- The sum over the lanes of the squared log-sum-exp. -/
theorem pay3_at (u v : FVec Ideal S1x1024 .f32) :
    k0_pay3 (F := Ideal) u v (ix2 0 0)
      = ∑ j : Fin 1024, (u (ix2 0 j) + Ideal.log (v (ix2 0 j))) * (u (ix2 0 j) + Ideal.log (v (ix2 0 j))) := by
  pointwise [k0_pay3]

/-- The first point's counts. -/
theorem pay4_at (v : FVec Ideal S64 .f32) (e : Fin 64) : k0_pay4 (F := Ideal) v (ix2 e 0) = v (ix1 e) := by
  pointwise [k0_pay4, pay1_at]

/-- The first point's sums of probabilities. -/
theorem pay5_at (P : FVec Ideal S64x1024 .f32) (e : Fin 64) :
    k0_pay5 (F := Ideal) P (ix2 e 0) = ∑ j : Fin 1024, P (ix2 e j) := by
  pointwise [k0_pay5, pay2_at]

/-- The first point's sum of squares. -/
theorem pay6_at (u v : FVec Ideal S1x1024 .f32) :
    k0_pay6 (F := Ideal) u v (ix2 0 0)
      = ∑ j : Fin 1024, (u (ix2 0 j) + Ideal.log (v (ix2 0 j))) * (u (ix2 0 j) + Ideal.log (v (ix2 0 j))) := by
  pointwise [k0_pay6, k0_pay3]

/-- A later point adds its counts to the carried ones. -/
theorem pay7_at (v : FVec Ideal S64 .f32) (acc : Vec Ideal S64x1 .f32) (e : Fin 64) :
    k0_pay7 (F := Ideal) v acc (ix2 e 0) = acc (ix2 e 0) + v (ix1 e) := by
  pointwise [k0_pay7, k0_pay1]

/-- A later point adds its sums of probabilities to the carried ones. -/
theorem pay8_at (P : FVec Ideal S64x1024 .f32) (acc : Vec Ideal S64x1 .f32) (e : Fin 64) :
    k0_pay8 (F := Ideal) P acc (ix2 e 0) = acc (ix2 e 0) + ∑ j : Fin 1024, P (ix2 e j) := by
  pointwise [k0_pay8, k0_pay2]

/-- A later point adds its sum of squares to the carried one. -/
theorem pay9_at (u v : FVec Ideal S1x1024 .f32) (acc : Vec Ideal S1x1 .f32) :
    k0_pay9 (F := Ideal) u v acc (ix2 0 0)
      = acc (ix2 0 0) + ∑ j : Fin 1024, (u (ix2 0 j) + Ideal.log (v (ix2 0 j))) * (u (ix2 0 j) + Ideal.log (v (ix2 0 j))) := by
  pointwise [k0_pay9, k0_pay3]

/-- The load-balancing loss: the inner product of the two carried columns, scaled. -/
theorem pay10_at (C P : Vec Ideal S64x1 .f32) :
    k0_pay10 (F := Ideal) C P (ix2 0 0)
      = (∑ e : Fin 64, C (ix2 e 0) * P (ix2 e 0)) * Ideal.ofBits .f32 0x3223D70A#32 := by
  pointwise [k0_pay10]
  simp

/-- The z-loss: the carried sum, scaled. -/
theorem pay11_at (z : Vec Ideal S1x1 .f32) :
    k0_pay11 (F := Ideal) z (ix2 0 0) = z (ix2 0 0) * Ideal.ofBits .f32 0x3403126F#32 := by
  pointwise [k0_pay11]

end Cert.KernelIdeal.Block
-- ==== Proof.Points.lean ====
/-
  The kernel's grid points: what a point leaves in the output blocks and in the carried sums, and the carried sums after
  several points.
-/
module

public import proofs.«01_k».proof.Proof.Gen.KernelIdeal.Value
public import proofs.«01_k».proof.Proof.Block
public import Idealize.ShloMosaic.Lib.Pipeline.ValueKit

@[expose] public section

set_option synthInstance.maxSize 4096
set_option maxRecDepth 16384

noncomputable section

namespace Cert.KernelIdeal.Points

open Idealize.ShloMosaic Idealize.ShloMosaic.TcCoe Idealize.SL.Sem Cert.KernelIdeal Cert.KernelIdeal.Gen Cert.KernelIdeal.Value Cert.KernelIdeal.Block Cert.Router

variable (m : (ℓ : Loc nD τ sig) → Buf (Elt Ideal) ℓ)

/-- The block of tokens that point `t` reads. -/
abbrev hid (c : Dev nD) (t : Fin cfg0.N) : Vec Ideal S1024x4096 .f32 := iblk m c 0 t

/-- The router's weights as point `t` reads them. -/
abbrev wgt (c : Dev nD) (t : Fin cfg0.N) : Vec Ideal S64x4096 .bf16 := iblk m c 1 t

/-- The probabilities that point `t` computes. -/
def prb (c : Dev nD) (t : Fin cfg0.N) : FVec Ideal S64x1024 .f32 := k0_pay16 (F := Ideal) (wgt m c t) (hid m c t)

/-- What is carried and stored between points. -/
abbrev State : Type := Vec Ideal S64x1024 .f32 × Vec Ideal S8x1024 .f32 × Vec Ideal S8x1024 .i32 × Vec Ideal S1x1 .f32
  × Vec Ideal S1x1 .f32 × Vec Ideal S64x1 .f32 × Vec Ideal S64x1 .f32 × Vec Ideal S1x1 .f32

/-- A carried sum read back whole is what was carried. -/
theorem read_back0 (v : Vec Ideal S64x1 .f32) :
    View.read (Elt Ideal) (View.whole cc0_scratch0) ((Memref.isWhole_whole cc0_scratch0).unread v) = v :=
  (Memref.isWhole_whole cc0_scratch0).read_unread v

/-- The same of the carried sums of probabilities. -/
theorem read_back1 (v : Vec Ideal S64x1 .f32) :
    View.read (Elt Ideal) (View.whole cc0_scratch1) ((Memref.isWhole_whole cc0_scratch1).unread v) = v :=
  (Memref.isWhole_whole cc0_scratch1).read_unread v

/-- The same of the carried sum of squares. -/
theorem read_back2 (v : Vec Ideal S1x1 .f32) :
    View.read (Elt Ideal) (View.whole cc0_scratch2) ((Memref.isWhole_whole cc0_scratch2).unread v) = v :=
  (Memref.isWhole_whole cc0_scratch2).read_unread v

/-- Every point stores its probabilities. -/
theorem probs_st (c : Dev nD) (t : Fin cfg0.N) (acc : State) : (stAt0 m c t.val t.isLt acc).1 = prb m c t := by
  have hN : t.val < 8 := lt_of_lt_of_eq t.isLt N_0
  by_cases h0 : t.val % 8 = 0
  · rw [stAt0_A m c t acc h0 (by omega) (by omega)]
    frame_out
    rfl
  · by_cases h2 : t.val % 8 = 7
    · rw [stAt0_C m c t acc h0 (by omega) h2]
      frame_out
      rfl
    · rw [stAt0_B m c t acc h0 (by omega) h2]
      frame_out
      rfl

/-- Every point stores its routing weights. -/
theorem weights_st (c : Dev nD) (t : Fin cfg0.N) (acc : State) : (stAt0 m c t.val t.isLt acc).2.1 = weights (prb m c t) := by
  have hN : t.val < 8 := lt_of_lt_of_eq t.isLt N_0
  by_cases h0 : t.val % 8 = 0
  · rw [stAt0_A m c t acc h0 (by omega) (by omega)]
    frame_out
    rfl
  · by_cases h2 : t.val % 8 = 7
    · rw [stAt0_C m c t acc h0 (by omega) h2]
      frame_out
      rfl
    · rw [stAt0_B m c t acc h0 (by omega) h2]
      frame_out
      rfl

/-- Every point stores its selected experts. -/
theorem experts_st (c : Dev nD) (t : Fin cfg0.N) (acc : State) : (stAt0 m c t.val t.isLt acc).2.2.1 = experts (prb m c t) := by
  have hN : t.val < 8 := lt_of_lt_of_eq t.isLt N_0
  by_cases h0 : t.val % 8 = 0
  · rw [stAt0_A m c t acc h0 (by omega) (by omega)]
    frame_out
    rfl
  · by_cases h2 : t.val % 8 = 7
    · rw [stAt0_C m c t acc h0 (by omega) h2]
      frame_out
      rfl
    · rw [stAt0_B m c t acc h0 (by omega) h2]
      frame_out
      rfl

/-- The first point starts the counts. -/
theorem counts_first (c : Dev nD) (t : Fin cfg0.N) (acc : State) (h0 : t.val = 0) :
    (stAt0 m c t.val t.isLt acc).2.2.2.2.2.1 = k0_pay4 (counts (prb m c t)) := by
  rw [stAt0_A m c t acc (by omega) (by omega) (by omega)]
  frame_out
  rfl

/-- Every later point adds to the counts. -/
theorem counts_later (c : Dev nD) (t : Fin cfg0.N) (acc : State) (h0 : 1 ≤ t.val) :
    (stAt0 m c t.val t.isLt acc).2.2.2.2.2.1 = k0_pay7 (counts (prb m c t)) acc.2.2.2.2.2.1 := by
  have hN : t.val < 8 := lt_of_lt_of_eq t.isLt N_0
  by_cases h2 : t.val % 8 = 7
  · rw [stAt0_C m c t acc (by omega) h0 h2]
    frame_out
    rw [read_back0]
    rfl
  · rw [stAt0_B m c t acc (by omega) h0 h2]
    frame_out
    rw [read_back0]
    rfl

/-- The first point starts the sums of probabilities. -/
theorem sums_first (c : Dev nD) (t : Fin cfg0.N) (acc : State) (h0 : t.val = 0) :
    (stAt0 m c t.val t.isLt acc).2.2.2.2.2.2.1 = k0_pay5 (prb m c t) := by
  rw [stAt0_A m c t acc (by omega) (by omega) (by omega)]
  frame_out
  rfl

/-- Every later point adds to the sums of probabilities. -/
theorem sums_later (c : Dev nD) (t : Fin cfg0.N) (acc : State) (h0 : 1 ≤ t.val) :
    (stAt0 m c t.val t.isLt acc).2.2.2.2.2.2.1 = k0_pay8 (prb m c t) acc.2.2.2.2.2.2.1 := by
  have hN : t.val < 8 := lt_of_lt_of_eq t.isLt N_0
  by_cases h2 : t.val % 8 = 7
  · rw [stAt0_C m c t acc (by omega) h0 h2]
    frame_out
    rw [read_back1]
    rfl
  · rw [stAt0_B m c t acc (by omega) h0 h2]
    frame_out
    rw [read_back1]
    rfl

/-- The first point starts the sum of squares. -/
theorem squares_first (c : Dev nD) (t : Fin cfg0.N) (acc : State) (h0 : t.val = 0) :
    (stAt0 m c t.val t.isLt acc).2.2.2.2.2.2.2 = k0_pay6 (k0_pay13 (wgt m c t) (hid m c t)) (k0_pay15 (wgt m c t) (hid m c t)) := by
  rw [stAt0_A m c t acc (by omega) (by omega) (by omega)]
  frame_out

/-- Every later point adds to the sum of squares. -/
theorem squares_later (c : Dev nD) (t : Fin cfg0.N) (acc : State) (h0 : 1 ≤ t.val) :
    (stAt0 m c t.val t.isLt acc).2.2.2.2.2.2.2 = k0_pay9 (k0_pay13 (wgt m c t) (hid m c t)) (k0_pay15 (wgt m c t) (hid m c t)) acc.2.2.2.2.2.2.2 := by
  have hN : t.val < 8 := lt_of_lt_of_eq t.isLt N_0
  by_cases h2 : t.val % 8 = 7
  · rw [stAt0_C m c t acc (by omega) h0 h2]
    frame_out
    rw [read_back2]
  · rw [stAt0_B m c t acc (by omega) h0 h2]
    frame_out
    rw [read_back2]

/-- The last point stores the scaled product of the totals. -/
theorem balance_last (c : Dev nD) (t : Fin cfg0.N) (acc : State) (h0 : t.val = 7) :
    (stAt0 m c t.val t.isLt acc).2.2.2.1
      = k0_pay10 (stAt0 m c t.val t.isLt acc).2.2.2.2.2.1 (stAt0 m c t.val t.isLt acc).2.2.2.2.2.2.1 := by
  rw [counts_later m c t acc (by omega), sums_later m c t acc (by omega),
    stAt0_C m c t acc (by omega) (by omega) (by omega)]
  frame_out
  rw [read_back0, read_back1]
  rfl

/-- The last point stores the scaled sum of squares. -/
theorem zloss_last (c : Dev nD) (t : Fin cfg0.N) (acc : State) (h0 : t.val = 7) :
    (stAt0 m c t.val t.isLt acc).2.2.2.2.1 = k0_pay11 (stAt0 m c t.val t.isLt acc).2.2.2.2.2.2.2 := by
  rw [squares_later m c t acc (by omega), stAt0_C m c t acc (by omega) (by omega) (by omega)]
  frame_out
  rw [read_back2]

/-! ### The carried sums after several points -/

/-- After point `n` the carried counts are the sum of the points' counts. -/
theorem counts_after (c : Dev nD) (e : Fin 64) : ∀ (n : ℕ) (hn : n < cfg0.N),
    (outsAt0 m c n hn).2.2.2.2.2.1 (ix2 e 0)
      = ∑ p : Fin (n + 1), counts (prb m c ⟨p.val, by have := p.isLt; omega⟩) (ix1 e)
  | 0, hn => by
    rw [outsAt0_zero]
    have h := counts_first m c ⟨0, hn⟩ junk0 rfl
    rw [h, pay4_at]
    simp
  | n + 1, hn => by
    rw [outsAt0_succ]
    have h := counts_later m c ⟨n + 1, hn⟩ (outsAt0 m c n (Nat.lt_of_succ_lt hn)) (Nat.succ_le_succ (Nat.zero_le n))
    rw [h, pay7_at, counts_after c e n, Fin.sum_univ_castSucc (n := n + 1)]
    rfl

/-- After point `n` the carried sums add the probabilities of all lanes of the points so far. -/
theorem sums_after (c : Dev nD) (e : Fin 64) : ∀ (n : ℕ) (hn : n < cfg0.N),
    (outsAt0 m c n hn).2.2.2.2.2.2.1 (ix2 e 0)
      = ∑ p : Fin (n + 1), ∑ j : Fin 1024, prb m c ⟨p.val, by have := p.isLt; omega⟩ (ix2 e j)
  | 0, hn => by
    rw [outsAt0_zero]
    have h := sums_first m c ⟨0, hn⟩ junk0 rfl
    rw [h, pay5_at]
    simp
  | n + 1, hn => by
    rw [outsAt0_succ]
    have h := sums_later m c ⟨n + 1, hn⟩ (outsAt0 m c n (Nat.lt_of_succ_lt hn)) (Nat.succ_le_succ (Nat.zero_le n))
    rw [h, pay8_at, sums_after c e n, Fin.sum_univ_castSucc (n := n + 1)]
    rfl

/-- The logits of the token in lane `j` of the block at point `t`. -/
def lgt (c : Dev nD) (t : Fin cfg0.N) (j : Fin 1024) : Fin 64 → EReal := logit (wgt m c t) (hid m c t) j

/-- A point's probabilities are the softmax of its logits. -/
theorem prb_at (c : Dev nD) (t : Fin cfg0.N) (e : Fin 64) (j : Fin 1024) : prb m c t (ix2 e j) = prob (lgt m c t j) e :=
  pay16_at _ _ e j

/-- A column of a point's probabilities is the softmax of that lane's logits. -/
theorem col_prb (c : Dev nD) (t : Fin cfg0.N) (j : Fin 1024) : col (prb m c t) j = prob (lgt m c t j) := col_pay16 _ _ j

/-- After point `n` the carried sum adds the squared log-sum-exp of all lanes of the points so far. -/
theorem squares_after (c : Dev nD) : ∀ (n : ℕ) (hn : n < cfg0.N),
    (outsAt0 m c n hn).2.2.2.2.2.2.2 (ix2 0 0)
      = ∑ p : Fin (n + 1), ∑ j : Fin 1024, lse (lgt m c ⟨p.val, by have := p.isLt; omega⟩ j) * lse (lgt m c ⟨p.val, by have := p.isLt; omega⟩ j)
  | 0, hn => by
    rw [outsAt0_zero]
    have h := squares_first m c ⟨0, hn⟩ junk0 rfl
    rw [h, pay6_at]
    simp only [pay13_at, pay15_at]
    rw [Fin.sum_univ_one]
    rfl
  | n + 1, hn => by
    rw [outsAt0_succ]
    have h := squares_later m c ⟨n + 1, hn⟩ (outsAt0 m c n (Nat.lt_of_succ_lt hn)) (Nat.succ_le_succ (Nat.zero_le n))
    rw [h, pay9_at, squares_after c n, Fin.sum_univ_castSucc (n := n + 1)]
    simp only [pay13_at, pay15_at]
    rfl

end Cert.KernelIdeal.Points
-- ==== Proof.Results.lean ====
/-
  The five results as functions of the two arguments, over the extended reals: what the kernel and the reference are
  both shown to leave.
-/
module

public import proofs.«01_k».proof.Proof.Gen.ReferenceIdeal
public import proofs.«01_k».proof.Proof.Column
public import Idealize.ShloMosaic.Lib.Pointwise

@[expose] public section

set_option maxRecDepth 16384

noncomputable section

namespace Cert.Router

open Idealize.ShloMosaic Cert.ReferenceIdeal

/-- The logits of token `T`, one for every expert. -/
def tok (A : FVec Ideal S2x4096x4096 .f32) (B : FVec Ideal S64x4096 .f32) (T : Fin 8192) (e : Fin 64) : EReal :=
  ∑ k : Fin 4096, A (ix3 ⟨T.val / 4096, by omega⟩ ⟨T.val % 4096, by omega⟩ k) * B (ix2 e k)

variable (A : FVec Ideal S2x4096x4096 .f32) (B : FVec Ideal S64x4096 .f32)

/-- The `k`-th greatest probability of token `T`. -/
def top (T : Fin 8192) (k : Fin 8) : EReal := prob (tok A B T) (sel (prob (tok A B T)) k.val)

/-- One where expert `e` is among the eight that token `T` takes, else zero. -/
def taken (T : Fin 8192) (e : Fin 64) : EReal := if rem (prob (tok A B T)) 8 e < 0 then 1 else 0

/-- The softmax probabilities, tokens last. -/
def outProbs : FVec Ideal S64x8192 .f32 := fun i => prob (tok A B (i 1)) (i 0)

/-- The eight greatest probabilities of every token, divided by their sum. -/
def outWeights : FVec Ideal S8x8192 .f32 := fun i => Ideal.div (top A B (i 1) (i 0)) (∑ k : Fin 8, top A B (i 1) k)

/-- The eight selected experts of every token. -/
def outExperts : IVec S8x8192 32 := fun i => BitVec.ofNat 32 (sel (prob (tok A B (i 1))) (i 0).val).val

/-- The load-balancing loss. -/
def outBalance : FVec Ideal S1x1 .f32 := fun _ =>
  ((64 : ℝ) : EReal) * (∑ e : Fin 64, Ideal.div (∑ T : Fin 8192, taken A B T e) ((8192 : ℝ) : EReal)
    * Ideal.div (∑ T : Fin 8192, prob (tok A B T) e) ((8192 : ℝ) : EReal)) * (auxCoef : EReal)

/-- The z-loss. -/
def outZ : FVec Ideal S1x1 .f32 := fun _ =>
  Ideal.div (∑ T : Fin 8192, lse (tok A B T) * lse (tok A B T)) ((8192 : ℝ) : EReal) * (zCoef : EReal)

end Cert.Router

end
-- ==== Proof.Arrays.lean ====
/-
  The kernel's five result arrays are the five results: the blocks the grid points read, and the arrays they leave.
-/
module

public import proofs.«01_k».proof.Proof.Points
public import proofs.«01_k».proof.Proof.Results
public import Idealize.ShloMosaic.Lib.Claim

@[expose] public section

set_option synthInstance.maxSize 4096
set_option maxRecDepth 16384

noncomputable section

namespace Cert.KernelIdeal.Arrays

open Idealize.ShloMosaic Idealize.ShloMosaic.TcCoe Idealize.SL.Sem Cert.KernelIdeal Cert.KernelIdeal.Gen Cert.KernelIdeal.Value Cert.KernelIdeal.Block Cert.KernelIdeal.Points Cert.Router

variable (m : (ℓ : Loc nD τ sig) → Buf (Elt Ideal) ℓ)

/-- The first argument on device `c`. -/
abbrev hidden (c : Dev nD) : FVec Ideal S2x4096x4096 .f32 := m ((c.tc : Thread nD τ).loc main_arg0)

/-- The second argument on device `c`. -/
abbrev gate (c : Dev nD) : FVec Ideal S64x4096 .f32 := m ((c.tc : Thread nD τ).loc main_arg1)

/-- Which block each of the two input windows shows at a point. -/
theorem idx : ∀ t : Fin cfg0.N, win0_0.index t = ![t.val, 0] ∧ win0_1.index t = ![0, 0] :=
  (by decide +kernel : ∀ t : Fin grid0.N, _)

/-- A point sees all of the router's weights. -/
theorem wgt_at (c : Dev nD) (t : Fin cfg0.N) (e : Fin 64) (k : Fin 4096) : wgt m c t (ix2 e k) = gate m c (ix2 e k) := by
  blk_simp [wgt, iblk, idx t]
  entry_read
  pointwise
  blk_ext [idx t]

/-- Point `t` sees the tokens from `1024 * t` on. -/
theorem hid_at (c : Dev nD) (t : Fin cfg0.N) (j : Fin 1024) (k : Fin 4096) (hT : t.val * 1024 + j.val < 8192) :
    hid m c t (ix2 j k)
      = hidden m c (ix3 ⟨(t.val * 1024 + j.val) / 4096, by omega⟩ ⟨(t.val * 1024 + j.val) % 4096, by omega⟩ k) := by
  blk_simp [hid, iblk, idx t]
  entry_read
  pointwise
  blk_ext [idx t]

/-- The token in lane `j` of the block at point `t`. -/
def tokOf (t : Fin cfg0.N) (j : Fin 1024) : Fin 8192 :=
  ⟨t.val * 1024 + j.val, by have : t.val < 8 := lt_of_lt_of_eq t.isLt N_0; omega⟩

/-- The logits a point computes in lane `j` are those of the token there. -/
theorem lgt_eq (c : Dev nD) (t : Fin cfg0.N) (j : Fin 1024) : lgt m c t j = tok (hidden m c) (gate m c) (tokOf t j) := by
  funext e
  unfold lgt logit tok
  refine Finset.sum_congr rfl fun k _ => ?_
  rw [wgt_at, hid_at m c t j k (tokOf t j).isLt, mul_comm]
  rfl

/-- A sum over the points and their lanes is a sum over the tokens. -/
theorem sum_tokens (f : Fin 8192 → EReal) :
    ∑ p : Fin (7 + 1), ∑ j : Fin 1024, f (tokOf ⟨p.val, lt_of_lt_of_eq p.isLt N_0.symm⟩ j) = ∑ T : Fin 8192, f T :=
  Fin.sum_mul_add_congr (M := EReal) (L := 8192) (S := 7 + 1) (n := 1024)
    (F := fun p j => f (tokOf ⟨p.val, lt_of_lt_of_eq p.isLt N_0.symm⟩ j)) (f := f) (fun _ _ _ => rfl) rfl

/-! ### The three arrays written block by block -/

/-- After any point the first output block holds that point's probabilities. -/
theorem outs_probs (c : Dev nD) : ∀ (n : ℕ) (hn : n < cfg0.N), (outsAt0 m c n hn).1 = prb m c ⟨n, hn⟩
  | 0, hn => by
    rw [outsAt0_zero]
    exact probs_st m c ⟨0, hn⟩ junk0
  | n + 1, hn => by
    rw [outsAt0_succ]
    exact probs_st m c ⟨n + 1, hn⟩ _

/-- After any point the second output block holds that point's routing weights. -/
theorem outs_weights (c : Dev nD) : ∀ (n : ℕ) (hn : n < cfg0.N), (outsAt0 m c n hn).2.1 = weights (prb m c ⟨n, hn⟩)
  | 0, hn => by
    rw [outsAt0_zero]
    exact weights_st m c ⟨0, hn⟩ junk0
  | n + 1, hn => by
    rw [outsAt0_succ]
    exact weights_st m c ⟨n + 1, hn⟩ _

/-- After any point the third output block holds that point's selected experts. -/
theorem outs_experts (c : Dev nD) : ∀ (n : ℕ) (hn : n < cfg0.N), (outsAt0 m c n hn).2.2.1 = experts (prb m c ⟨n, hn⟩)
  | 0, hn => by
    rw [outsAt0_zero]
    exact experts_st m c ⟨0, hn⟩ junk0
  | n + 1, hn => by
    rw [outsAt0_succ]
    exact experts_st m c ⟨n + 1, hn⟩ _

/-- The point and the lane of token `T`. -/
theorem token_place (T : Fin 8192) (n : ℕ) (hn : n < cfg0.N) (j : Fin 1024) (h : n = T.val / 1024) (hj : j.val = T.val % 1024) :
    tokOf ⟨n, hn⟩ j = T := by
  refine Fin.ext ?_
  show n * 1024 + j.val = T.val
  omega

/-- The kernel's first array: the probabilities. -/
theorem G2_eq (c : Dev nD) : G2 m c = outProbs (hidden m c) (gate m c) := by
  funext i
  have h0 : (i 0).val < 64 := (i 0).isLt
  have h1 : (i 1).val < 8192 := (i 1).isLt
  have hN : cfg0.N = 8 := N_0
  have h : pt2Of i < cfg0.N := by
    show 8 * ((i 0).val / 64 - 0) + 1 * ((i 1).val / 1024 - 0) < cfg0.N
    omega
  have hl : loc2Of i = ix2 (⟨(i 0).val, h0⟩ : Fin 64) (⟨(i 1).val % 1024, by omega⟩ : Fin 1024) := by
    funext a
    match a with
    | ⟨0, _⟩ => exact Fin.ext (Nat.mod_eq_of_lt h0)
    | ⟨1, _⟩ => rfl
  unfold G2
  rw [dif_pos h, ← outsAt0_sweep m c _ h, outs_probs, hl, prb_at, lgt_eq,
    token_place (⟨(i 1).val, h1⟩ : Fin 8192) (pt2Of i) h (⟨(i 1).val % 1024, by omega⟩ : Fin 1024)
      (by show 8 * ((i 0).val / 64 - 0) + 1 * ((i 1).val / 1024 - 0) = (i 1).val / 1024; omega) rfl]
  rfl

variable (hA : ∀ (c : Dev nD) T e, IsReal (tok (hidden m c) (gate m c) T e))

include hA in
/-- What the `k`-th of the kernel's rounds finds is the `k`-th greatest probability. -/
theorem round_eq (c : Dev nD) (T : Fin 8192) (k : Fin 8) :
    colMax (rem (prob (tok (hidden m c) (gate m c) T)) k.val) = top (hidden m c) (gate m c) T k :=
  colMax_rem _ (prob_nonneg (hA c T)) k.val (by omega)

include hA in
/-- The kernel's second array: the routing weights. -/
theorem G3_eq (c : Dev nD) : G3 m c = outWeights (hidden m c) (gate m c) := by
  funext i
  have h0 : (i 0).val < 8 := (i 0).isLt
  have h1 : (i 1).val < 8192 := (i 1).isLt
  have hN : cfg0.N = 8 := N_0
  have h : pt3Of i < cfg0.N := by
    show 8 * ((i 0).val / 8 - 0) + 1 * ((i 1).val / 1024 - 0) < cfg0.N
    omega
  have hl : loc3Of i = ix2 (⟨(i 0).val, h0⟩ : Fin 8) (⟨(i 1).val % 1024, by omega⟩ : Fin 1024) := by
    funext a
    match a with
    | ⟨0, _⟩ => exact Fin.ext (Nat.mod_eq_of_lt h0)
    | ⟨1, _⟩ => rfl
  unfold G3
  rw [dif_pos h, ← outsAt0_sweep m c _ h, outs_weights, hl, weights_at, col_prb, lgt_eq,
    token_place (⟨(i 1).val, h1⟩ : Fin 8192) (pt3Of i) h (⟨(i 1).val % 1024, by omega⟩ : Fin 1024)
      (by show 8 * ((i 0).val / 8 - 0) + 1 * ((i 1).val / 1024 - 0) = (i 1).val / 1024; omega) rfl]
  exact congrArg₂ Ideal.div (round_eq m hA c _ ⟨(i 0).val, h0⟩) (Finset.sum_congr rfl fun k _ => round_eq m hA c _ k)

/-- The kernel's third array: the selected experts. -/
theorem G4_eq (c : Dev nD) : G4 m c = outExperts (hidden m c) (gate m c) := by
  funext i
  have h0 : (i 0).val < 8 := (i 0).isLt
  have h1 : (i 1).val < 8192 := (i 1).isLt
  have hN : cfg0.N = 8 := N_0
  have h : pt4Of i < cfg0.N := by
    show 8 * ((i 0).val / 8 - 0) + 1 * ((i 1).val / 1024 - 0) < cfg0.N
    omega
  have hl : loc4Of i = ix2 (⟨(i 0).val, h0⟩ : Fin 8) (⟨(i 1).val % 1024, by omega⟩ : Fin 1024) := by
    funext a
    match a with
    | ⟨0, _⟩ => exact Fin.ext (Nat.mod_eq_of_lt h0)
    | ⟨1, _⟩ => rfl
  unfold G4
  rw [dif_pos h, ← outsAt0_sweep m c _ h, outs_experts, hl, experts_at, col_prb, lgt_eq,
    token_place (⟨(i 1).val, h1⟩ : Fin 8192) (pt4Of i) h (⟨(i 1).val % 1024, by omega⟩ : Fin 1024)
      (by show 8 * ((i 0).val / 8 - 0) + 1 * ((i 1).val / 1024 - 0) = (i 1).val / 1024; omega) rfl]
  rfl

/-! ### The two losses, written at the last point -/

/-- After the last point the carried counts say how many tokens take expert `e`. -/
theorem counts_total (c : Dev nD) (hn : 7 < cfg0.N) (e : Fin 64) :
    (outsAt0 m c 7 hn).2.2.2.2.2.1 (ix2 e 0) = ∑ T : Fin 8192, taken (hidden m c) (gate m c) T e := by
  rw [counts_after, ← sum_tokens fun T => taken (hidden m c) (gate m c) T e]
  refine Finset.sum_congr rfl fun p _ => ?_
  rw [counts_at]
  refine Finset.sum_congr rfl fun j _ => ?_
  rw [col_prb, lgt_eq]
  rfl

/-- After the last point the carried sums add the probability of expert `e` over all tokens. -/
theorem sums_total (c : Dev nD) (hn : 7 < cfg0.N) (e : Fin 64) :
    (outsAt0 m c 7 hn).2.2.2.2.2.2.1 (ix2 e 0) = ∑ T : Fin 8192, prob (tok (hidden m c) (gate m c) T) e := by
  rw [sums_after, ← sum_tokens fun T => prob (tok (hidden m c) (gate m c) T) e]
  refine Finset.sum_congr rfl fun p _ => Finset.sum_congr rfl fun j _ => ?_
  rw [prb_at, lgt_eq]

/-- After the last point the carried square sum adds up the squares of all tokens' log-sum-exp. -/
theorem squares_total (c : Dev nD) (hn : 7 < cfg0.N) :
    (outsAt0 m c 7 hn).2.2.2.2.2.2.2 (ix2 0 0)
      = ∑ T : Fin 8192, lse (tok (hidden m c) (gate m c) T) * lse (tok (hidden m c) (gate m c) T) := by
  rw [squares_after, ← sum_tokens fun T => lse (tok (hidden m c) (gate m c) T) * lse (tok (hidden m c) (gate m c) T)]
  refine Finset.sum_congr rfl fun p _ => Finset.sum_congr rfl fun j _ => ?_
  rw [lgt_eq]

/-- The one index of a one by one array. -/
theorem idx_one (i : S1x1.Idx) : i = ix2 0 0 := by
  funext a
  match a with
  | ⟨0, _⟩ => exact Fin.ext (Nat.lt_one_iff.mp (i 0).isLt)
  | ⟨1, _⟩ => exact Fin.ext (Nat.lt_one_iff.mp (i 1).isLt)

include hA in
/-- The kernel's fourth array: the load-balancing loss. -/
theorem G5_eq (c : Dev nD) : G5 m c = outBalance (hidden m c) (gate m c) := by
  have hn : 7 < cfg0.N := lt_of_lt_of_eq (by decide) N_0.symm
  funext i
  rw [idx_one i, G5_last, ← outsAt0_sweep m c 7 hn]
  have h : (outsAt0 m c 7 hn).2.2.2.1 = k0_pay10 (outsAt0 m c 7 hn).2.2.2.2.2.1 (outsAt0 m c 7 hn).2.2.2.2.2.2.1 := by
    rw [outsAt0_succ m c 6 hn]
    exact balance_last m c ⟨7, hn⟩ _ rfl
  rw [h, pay10_at, ofBits_aux_scaled]
  simp only [counts_total, sums_total]
  refine balance_eq (fun e => IsReal.sum _ fun T _ => ?_) fun e => IsReal.sum _ fun T _ => isReal_prob (hA c T) e
  unfold taken
  split
  · exact isReal_one
  · exact isReal_zero

include hA in
/-- The kernel's fifth array: the z-loss. -/
theorem G6_eq (c : Dev nD) : G6 m c = outZ (hidden m c) (gate m c) := by
  have hn : 7 < cfg0.N := lt_of_lt_of_eq (by decide) N_0.symm
  funext i
  rw [idx_one i, G6_last, ← outsAt0_sweep m c 7 hn]
  have h : (outsAt0 m c 7 hn).2.2.2.2.1 = k0_pay11 (outsAt0 m c 7 hn).2.2.2.2.2.2.2 := by
    rw [outsAt0_succ m c 6 hn]
    exact zloss_last m c ⟨7, hn⟩ _ rfl
  rw [h, pay11_at, ofBits_z_scaled, squares_total]
  exact zloss_eq (IsReal.sum _ fun T _ => (isReal_lse (hA c T)).mul (isReal_lse (hA c T)))

include hA in
/-- Where all logits are real the kernel leaves the five results. -/
theorem run_out (ρ : Dev nD → PrngReg) :
    θ_run defs (onTc (τ := τ) (main (F := Ideal))) ⟨m, fun _ => 0, ρ⟩ fun r => ∀ c : Dev nD,
      r.2.mem ((c.tc : Thread nD τ).loc main_v2_0) = outProbs (hidden m c) (gate m c)
      ∧ r.2.mem ((c.tc : Thread nD τ).loc main_v2_1) = outWeights (hidden m c) (gate m c)
      ∧ r.2.mem ((c.tc : Thread nD τ).loc main_v2_2) = outExperts (hidden m c) (gate m c)
      ∧ r.2.mem ((c.tc : Thread nD τ).loc main_v2_3) = outBalance (hidden m c) (gate m c)
      ∧ r.2.mem ((c.tc : Thread nD τ).loc main_v2_4) = outZ (hidden m c) (gate m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (G2_eq m c), (h c).2.1.trans (G3_eq m hA c), (h c).2.2.1.trans (G4_eq m c),
     (h c).2.2.2.1.trans (G5_eq m hA c), (h c).2.2.2.2.1.trans (G6_eq m hA c), (h c).2.2.2.2.2⟩)
    (Value.run m ρ)

end Cert.KernelIdeal.Arrays

end
-- ==== Proof.RefRead.lean ====
/-
  The reference at an index: its chain of values, named, and each of them read at one token and one expert.
-/
module

public import proofs.«01_k».proof.Proof.Gen.ReferenceIdeal.Run
public import proofs.«01_k».proof.Proof.Results
public import Idealize.ShloMosaic.Lib.Pointwise

@[expose] public section

set_option synthInstance.maxSize 4096
set_option maxRecDepth 16384

noncomputable section

namespace Cert.ReferenceIdeal.Read

open Idealize.ShloMosaic Idealize.ShloMosaic.TcCoe Idealize.SL.Sem Cert.ReferenceIdeal Cert.ReferenceIdeal.Gen Cert.Router

/-! ### The chain -/

/-- The router's logits. -/
def rLogits (A : FVec Ideal S2x4096x4096 .f32) (B : FVec Ideal S64x4096 .f32) : FVec Ideal S8192x64 .f32 :=
  Host.dotGeneral dot_S8192x4096_S4096x64_S8192x64_1_0_0_1_n_n none (shapeCast _ A shapeCasts_S2x4096x4096_S8192x4096)
    (transpose S4096x64 [1, 0] B transposes_S64x4096_S4096x64_1_0)

/-- The greatest logit of every token. -/
def rMax (L : FVec Ideal S8192x64 .f32) : FVec Ideal S8192 .f32 :=
  Host.reduce FloatOps.maximumf L (constant S_ .f32 0xFF800000#32) reducesTo_S8192x64_S8192_d1 h_S_

/-- The greatest logit, once more compared with the bottom. -/
def rMax' (L : FVec Ideal S8192x64 .f32) : FVec Ideal S8192 .f32 :=
  maximumf (broadcastInDim S8192 ![] bcast_S_S8192 (constant S_ .f32 0xFF800000#32)) (rMax L)

/-- One value for every token, over all experts. -/
def rSpread (v : FVec Ideal S8192 .f32) : FVec Ideal S8192x64 .f32 :=
  broadcastInDim S8192x64 ![0, 1] bcast_S8192x1_S8192x64_0_1 (broadcastInDim S8192x1 ![0] bcast_S8192_S8192x1_0 v)

/-- The exponentials of the logits after `v` is taken off. -/
def rExp (L : FVec Ideal S8192x64 .f32) (v : FVec Ideal S8192 .f32) : FVec Ideal S8192x64 .f32 :=
  Host.exp (subf L (rSpread v))

/-- The sum over the experts. -/
def rSum (E : FVec Ideal S8192x64 .f32) : FVec Ideal S8192 .f32 :=
  Host.reduceAdd E (constant S_ .f32 0x00000000#32) reducesTo_S8192x64_S8192_d1 h_S_

/-- The softmax. -/
def rProbs (L : FVec Ideal S8192x64 .f32) : FVec Ideal S8192x64 .f32 :=
  Host.divf (rExp L (rMax' L)) (rSpread (rSum (rExp L (rMax' L))))

/-- The eight greatest probabilities of every token. -/
def rTop (P : FVec Ideal S8192x64 .f32) : FVec Ideal S8192x8 .f32 :=
  (Host.topK S8192x8 1 (FloatOps.cmpfTotal .gt) P sliceFits_S8192x64_S8192x8).1

/-- Their experts. -/
def rIdx (P : FVec Ideal S8192x64 .f32) : IVec S8192x8 32 :=
  (Host.topK S8192x8 1 (FloatOps.cmpfTotal .gt) P sliceFits_S8192x64_S8192x8).2

/-- The routing weights. -/
def rWeights (V : FVec Ideal S8192x8 .f32) : FVec Ideal S8192x8 .f32 :=
  Host.divf V (broadcastInDim S8192x8 ![0, 1] bcast_S8192x1_S8192x8_0_1 (broadcastInDim S8192x1 ![0] bcast_S8192_S8192x1_0
    (Host.reduceAdd V (constant S_ .f32 0x00000000#32) reducesTo_S8192x8_S8192_d1 h_S_)))

/-- The one-hot encoding of the selected experts, summed over the eight places. -/
def rMask (I : IVec S8192x8 32) : FVec Ideal S8192x64 .f32 :=
  Host.reduceAdd (uitofp .f32 (cmpi .eq
      (broadcastInDim S8192x8x64 ![0, 1, 2] bcast_S8192x8x1_S8192x8x64_0_1_2 (broadcastInDim S8192x8x1 ![0, 1] bcast_S8192x8_S8192x8x1_0_1 I))
      (broadcastInDim S8192x8x64 ![0, 1, 2] bcast_S1x1x64_S8192x8x64_0_1_2 (iotaInDim S1x1x64 32 2))))
    (constant S_ .f32 0x00000000#32) reducesTo_S8192x8x64_S8192x64_d1 h_S_

/-- The mean over the tokens. -/
def rMean (X : FVec Ideal S8192x64 .f32) : FVec Ideal S64 .f32 :=
  Host.divf (Host.reduceAdd X (constant S_ .f32 0x00000000#32) reducesTo_S8192x64_S64_d0 h_S_)
    (broadcastInDim S64 ![] bcast_S_S64 (constant S_ .f32 0x46000000#32))

/-- The load-balancing loss. -/
def rBalance (C P : FVec Ideal S8192x64 .f32) : FVec Ideal S_ .f32 :=
  mulf (mulf (constant S_ .f32 0x42800000#32)
      (Host.reduceAdd (mulf (rMean C) (rMean P)) (constant S_ .f32 0x00000000#32) reducesTo_S64_S_d0 h_S_))
    (constant S_ .f32 0x3C23D70A#32)

/-- The logarithm of the sum of exponentials. -/
def rLse (L : FVec Ideal S8192x64 .f32) : FVec Ideal S8192 .f32 :=
  addf (Host.log (rSum (rExp L (rMax L))))
    (shapeCast _ (broadcastInDim S8192x1 ![0] bcast_S8192_S8192x1_0 (rMax L)) shapeCasts_S8192x1_S8192)

/-- The z-loss. -/
def rZ (v : FVec Ideal S8192 .f32) : FVec Ideal S_ .f32 :=
  mulf (Host.divf (Host.reduceAdd (mulf v v) (constant S_ .f32 0x00000000#32) reducesTo_S8192_S_d0 h_S_)
    (constant S_ .f32 0x46000000#32)) (constant S_ .f32 0x3A83126F#32)

/-! ### At an index -/

variable (A : FVec Ideal S2x4096x4096 .f32) (B : FVec Ideal S64x4096 .f32)

/-- The reference's logits are `tok`. -/
theorem rLogits_at (T : Fin 8192) (e : Fin 64) : rLogits A B (ix2 T e) = tok A B T e := by
  unfold tok
  pointwise [rLogits]

variable (L : FVec Ideal S8192x64 .f32)

/-- Row `T` of a matrix. -/
def row (L : FVec Ideal S8192x64 .f32) (T : Fin 8192) (e : Fin 64) : EReal := L (ix2 T e)

/-- The greatest logit of a token. -/
theorem rMax_at (T : Fin 8192) : rMax L (ix1 T) = colMax (row L T) := by
  have h : rMax L (ix1 T) = Finset.univ.fold max (Ideal.ofBits .f32 0xFF800000#32) (fun e : Fin 64 => L (ix2 T e)) := by
    pointwise [rMax]
  rw [h, ofBits_neg_inf]
  exact fold_max_eq _

/-- Comparing it with the bottom changes nothing. -/
theorem rMax'_at (T : Fin 8192) : rMax' L (ix1 T) = colMax (row L T) := by
  have h : rMax' L (ix1 T) = max (Ideal.ofBits .f32 0xFF800000#32) (rMax L (ix1 T)) := by
    pointwise [rMax']
  rw [h, ofBits_neg_inf, rMax_at]
  exact max_eq_right bot_le

/-- A value spread over the experts, read at one of them. -/
theorem rSpread_at (v : FVec Ideal S8192 .f32) (T : Fin 8192) (e : Fin 64) : rSpread v (ix2 T e) = v (ix1 T) := by
  pointwise [rSpread]

/-- The exponential, with the greatest logit taken off. -/
theorem rExp_at (v : FVec Ideal S8192 .f32) (T : Fin 8192) (hv : v (ix1 T) = colMax (row L T)) (e : Fin 64) :
    rExp L v (ix2 T e) = expo (row L T) e := by
  have h : rExp L v (ix2 T e) = Ideal.exp (L (ix2 T e) - rSpread v (ix2 T e)) := by
    pointwise [rExp]
  rw [h, rSpread_at, hv]
  rfl

/-- The sum over the experts at a token. -/
theorem rSum_at (E : FVec Ideal S8192x64 .f32) (T : Fin 8192) : rSum E (ix1 T) = ∑ e : Fin 64, E (ix2 T e) := by
  pointwise [rSum]

/-- The sum of the exponentials is the softmax denominator. -/
theorem den_at (v : FVec Ideal S8192 .f32) (T : Fin 8192) (hv : v (ix1 T) = colMax (row L T)) :
    rSum (rExp L v) (ix1 T) = den (row L T) := by
  rw [rSum_at, den]
  exact Finset.sum_congr rfl fun e _ => rExp_at L v T hv e

/-- The reference's probabilities are the softmax of each row. -/
theorem rProbs_at (T : Fin 8192) (e : Fin 64) : rProbs L (ix2 T e) = prob (row L T) e := by
  have h : rProbs L (ix2 T e)
      = Ideal.div (rExp L (rMax' L) (ix2 T e)) (rSpread (rSum (rExp L (rMax' L))) (ix2 T e)) := by
    pointwise [rProbs]
  rw [h, rSpread_at, rExp_at L _ T (rMax'_at L T), den_at L _ T (rMax'_at L T)]
  rfl

variable (P : FVec Ideal S8192x64 .f32)

/-- Moving an index along the experts keeps its token. -/
theorem along_at (T : Fin 8192) (k : Fin 64) (l : Fin 64) :
    (ix2 T k : S8192x64.Idx).along (1 : Fin 2) l = ix2 T l := by
  funext a
  match a with
  | ⟨0, _⟩ => rfl
  | ⟨1, _⟩ => rfl

/-- The descending stable sort of nonnegative values puts at place `k` what round `k` selects. -/
theorem sorted_at (T : Fin 8192) (hp : ∀ e, 0 ≤ row P T e) (k : Fin 64) :
    sortedFrom (fun l l' : Fin 64 => FloatOps.cmpfTotal (F := Ideal) (φ := .f32) .gt (P (ix2 T l)) (P (ix2 T l')) == 1#1) k
      = sel (row P T) k.val := by
  rw [← sortedFrom_eq_sel (row P T) hp k]
  congr 1
  funext l l'
  show ((BitVec.ofBool (decide (P (ix2 T l') < P (ix2 T l)))) == 1#1) = decide (P (ix2 T l') < P (ix2 T l))
  by_cases h : P (ix2 T l') < P (ix2 T l) <;> simp [h]

/-- The order in which the descending sort leaves token `T`'s experts. -/
def order (T : Fin 8192) (k : Fin 64) : Fin 64 :=
  sortedFrom (fun l l' : Fin 64 => FloatOps.cmpfTotal (F := Ideal) (φ := .f32) .gt (P (ix2 T l)) (P (ix2 T l')) == 1#1) k

/-- The sort of the pairs of value and index, read at a token and a place. -/
theorem sort2_at (y : IVec S8192x64 32) (T : Fin 8192) (k : Fin 64) :
    (Host.sort2 S8192x64 1 (fun l r => FloatOps.cmpfTotal (F := Ideal) (φ := .f32) .gt l.1 r.1) P y).1 (ix2 T k)
        = P (ix2 T (order P T k))
      ∧ (Host.sort2 S8192x64 1 (fun l r => FloatOps.cmpfTotal (F := Ideal) (φ := .f32) .gt l.1 r.1) P y).2 (ix2 T k)
        = y (ix2 T (order P T k)) := by
  have hd : 1 < S8192x64.rank := by decide
  have hπ : (fun l l' : Fin 64 => FloatOps.cmpfTotal (F := Ideal) (φ := .f32) .gt
        (P ((ix2 T k : S8192x64.Idx).along (1 : Fin 2) l)) (P ((ix2 T k : S8192x64.Idx).along (1 : Fin 2) l')) == 1#1)
      = fun l l' : Fin 64 => FloatOps.cmpfTotal (F := Ideal) (φ := .f32) .gt (P (ix2 T l)) (P (ix2 T l')) == 1#1 :=
    funext fun l => funext fun l' => by rw [along_at, along_at]
  unfold Host.sort2
  rw [dif_pos hd]
  constructor
  · exact (congrArg P (along_at T k _)).trans (congrArg (fun g => P (ix2 T (sortedFrom g k))) hπ)
  · exact (congrArg y (along_at T k _)).trans (congrArg (fun g => y (ix2 T (sortedFrom g k))) hπ)

/-- The slice of the first eight columns, read at an index. -/
theorem slice_at {β : Type} (v : S8192x64.Idx → β) (T : Fin 8192) (k : Fin 8) :
    extractStridedSlice S8192x8 (fun _ => 0) v sliceFits_S8192x64_S8192x8 (ix2 T k)
      = v (ix2 T (⟨k.val, by omega⟩ : Fin 64)) := by
  refine congrArg v (funext fun a => ?_)
  match a with
  | ⟨0, _⟩ => exact Fin.ext (Nat.zero_add _)
  | ⟨1, _⟩ => exact Fin.ext (Nat.zero_add _)

/-- The `k`-th greatest value is the value of the expert that round `k` selects. -/
theorem rTop_at (T : Fin 8192) (hp : ∀ e, 0 ≤ row P T e) (k : Fin 8) :
    rTop P (ix2 T k) = row P T (sel (row P T) k.val) := by
  refine (slice_at _ T k).trans ((sort2_at P (iotaInDim S8192x64 32 1) T _).1.trans ?_)
  rw [order, sorted_at P T hp]
  rfl

/-- The `k`-th index is the expert that round `k` selects. -/
theorem rIdx_at (T : Fin 8192) (hp : ∀ e, 0 ≤ row P T e) (k : Fin 8) :
    rIdx P (ix2 T k) = BitVec.ofNat 32 (sel (row P T) k.val).val := by
  refine (slice_at _ T k).trans ((sort2_at P (iotaInDim S8192x64 32 1) T _).2.trans ?_)
  rw [order, sorted_at P T hp]
  rfl

/-- A routing weight: one of the eight values over their sum. -/
theorem rWeights_at (V : FVec Ideal S8192x8 .f32) (T : Fin 8192) (k : Fin 8) :
    rWeights V (ix2 T k) = Ideal.div (V (ix2 T k)) (∑ k' : Fin 8, V (ix2 T k')) := by
  pointwise [rWeights]

/-- The summed one-hot encodings count the places that hold expert `e`. -/
theorem rMask_at (I : IVec S8192x8 32) (T : Fin 8192) (e : Fin 64) :
    rMask I (ix2 T e) = ∑ k : Fin 8, if I (ix2 T k) = BitVec.ofNat 32 e.val then (1 : EReal) else 0 := by
  pointwise [rMask]
  refine Finset.sum_congr rfl fun k _ => ?_
  show (((BitVec.ofBool (decide (I (ix2 T k) = BitVec.ofNat 32 e.val))).toNat : ℝ) : EReal) = _
  by_cases h : I (ix2 T k) = BitVec.ofNat 32 e.val <;> simp [h]

/-- The mean over the tokens at an expert. -/
theorem rMean_at (X : FVec Ideal S8192x64 .f32) (e : Fin 64) :
    rMean X (ix1 e) = Ideal.div (∑ T : Fin 8192, X (ix2 T e)) (Ideal.ofBits .f32 0x46000000#32) := by
  pointwise [rMean]

/-- The load-balancing loss as a sum over the experts. -/
theorem rBalance_at (C P : FVec Ideal S8192x64 .f32) (i : S_.Idx) :
    rBalance C P i = Ideal.ofBits .f32 0x42800000#32 * (∑ e : Fin 64, rMean C (ix1 e) * rMean P (ix1 e))
      * Ideal.ofBits .f32 0x3C23D70A#32 := by
  pointwise [rBalance]

/-- The reference's log-sum-exp of a token. -/
theorem rLse_at (T : Fin 8192) : rLse L (ix1 T) = lse (row L T) := by
  have h : rLse L (ix1 T) = Ideal.log (rSum (rExp L (rMax L)) (ix1 T)) + rMax L (ix1 T) := by
    pointwise [rLse]
  rw [h, den_at L _ T (rMax_at L T), rMax_at, add_comm]
  rfl

/-- The z-loss as a sum over the tokens. -/
theorem rZ_at (v : FVec Ideal S8192 .f32) (i : S_.Idx) :
    rZ v i = Ideal.div (∑ T : Fin 8192, v (ix1 T) * v (ix1 T)) (Ideal.ofBits .f32 0x46000000#32)
      * Ideal.ofBits .f32 0x3A83126F#32 := by
  pointwise [rZ]

/-! ### The five results -/

/-- Row `T` of the reference's logits holds the logits of token `T`. -/
theorem row_rLogits (T : Fin 8192) : row (rLogits A B) T = tok A B T := funext fun e => rLogits_at A B T e

/-- Row `T` of the reference's softmax is the softmax of token `T`. -/
theorem row_rProbs (T : Fin 8192) : row (rProbs (rLogits A B)) T = prob (tok A B T) :=
  funext fun e => (rProbs_at _ T e).trans (by rw [row_rLogits])

variable (hA : ∀ T e, IsReal (tok A B T e))

include hA in
/-- The reference's probabilities aren't negative. -/
theorem row_nonneg (T : Fin 8192) (e : Fin 64) : 0 ≤ row (rProbs (rLogits A B)) T e := by
  rw [row_rProbs]
  exact prob_nonneg (hA T) e

/-- The first result: the probabilities, tokens last. -/
theorem ref_probs : transpose S64x8192 [1, 0] (rProbs (rLogits A B)) transposes_S8192x64_S64x8192_1_0 = outProbs A B := by
  funext i
  have h : transpose S64x8192 [1, 0] (rProbs (rLogits A B)) transposes_S8192x64_S64x8192_1_0 i
      = rProbs (rLogits A B) (ix2 (i 1) (i 0)) := by
    idx_vars i
    pointwise
  exact h.trans (congrFun (row_rProbs A B (i 1)) (i 0))

include hA in
/-- The reference's eight values are the eight greatest probabilities. -/
theorem rTop_eq (T : Fin 8192) (k : Fin 8) : rTop (rProbs (rLogits A B)) (ix2 T k) = top A B T k := by
  rw [rTop_at _ T (row_nonneg A B hA T), row_rProbs]
  rfl

include hA in
/-- The second result: the routing weights. -/
theorem ref_weights : transpose S8x8192 [1, 0] (rWeights (rTop (rProbs (rLogits A B)))) transposes_S8192x8_S8x8192_1_0
    = outWeights A B := by
  funext i
  have h : transpose S8x8192 [1, 0] (rWeights (rTop (rProbs (rLogits A B)))) transposes_S8192x8_S8x8192_1_0 i
      = rWeights (rTop (rProbs (rLogits A B))) (ix2 (i 1) (i 0)) := by
    generalize rWeights (rTop (rProbs (rLogits A B))) = W
    idx_vars i
    pointwise
  refine h.trans ((rWeights_at _ (i 1) (i 0)).trans ?_)
  refine congrArg₂ Ideal.div (rTop_eq A B hA (i 1) (i 0)) (Finset.sum_congr rfl fun k _ => rTop_eq A B hA (i 1) k)

include hA in
/-- The third result: the selected experts. -/
theorem ref_experts : transpose S8x8192 [1, 0] (rIdx (rProbs (rLogits A B))) transposes_S8192x8_S8x8192_1_0
    = outExperts A B := by
  funext i
  have h : transpose S8x8192 [1, 0] (rIdx (rProbs (rLogits A B))) transposes_S8192x8_S8x8192_1_0 i
      = rIdx (rProbs (rLogits A B)) (ix2 (i 1) (i 0)) := by
    generalize rIdx (rProbs (rLogits A B)) = W
    idx_vars i
    pointwise
  refine h.trans ((rIdx_at _ (i 1) (row_nonneg A B hA (i 1)) (i 0)).trans ?_)
  exact congrArg (fun p : Fin 64 → EReal => BitVec.ofNat 32 (sel p (i 0).val).val) (row_rProbs A B (i 1))

include hA in
/-- The one-hot encodings of a token's eight experts add up to one at the experts that eight rounds take. -/
theorem rMask_eq (T : Fin 8192) (e : Fin 64) : rMask (rIdx (rProbs (rLogits A B))) (ix2 T e) = taken A B T e := by
  rw [rMask_at]
  have hp := prob_nonneg (hA T)
  have h : ∀ k : Fin 8, (rIdx (rProbs (rLogits A B)) (ix2 T k) = BitVec.ofNat 32 e.val)
      ↔ sel (prob (tok A B T)) k.val = e := fun k => by
    rw [rIdx_at _ T (row_nonneg A B hA T), row_rProbs, ofNat_inj_small (Fin.isLt _) e.isLt, Fin.ext_iff]
  simp only [h]
  unfold taken
  by_cases hx : ∃ s < 8, sel (prob (tok A B T)) s = e
  · rw [if_pos ((rem_neg_iff _ hp 8 e).mpr hx)]
    obtain ⟨s, hs, hse⟩ := hx
    rw [Finset.sum_eq_single (⟨s, hs⟩ : Fin 8), if_pos hse]
    · intro k _ hk
      rw [if_neg]
      intro hke
      exact hk (Fin.ext (sel_injOn _ hp (by omega) (by omega) (hke.trans hse.symm)))
    · exact fun hn => absurd (Finset.mem_univ _) hn
  · rw [if_neg (fun hn => hx ((rem_neg_iff _ hp 8 e).mp hn))]
    exact Finset.sum_eq_zero fun k _ => if_neg fun hk => hx ⟨k.val, k.isLt, hk⟩

/-- A scalar as a one by one array has the scalar's one entry. -/
theorem scalar_at {β : Type} (v : S_.Idx → β) (i : S1x1.Idx) :
    ∃ j, shapeCast S1x1 v shapeCasts_S_S1x1 i = v j := ⟨_, rfl⟩

include hA in
/-- The fourth result: the load-balancing loss. -/
theorem ref_balance : shapeCast S1x1 (rBalance (rMask (rIdx (rProbs (rLogits A B)))) (rProbs (rLogits A B))) shapeCasts_S_S1x1
    = outBalance A B := by
  funext i
  obtain ⟨j, hj⟩ := scalar_at (rBalance (rMask (rIdx (rProbs (rLogits A B)))) (rProbs (rLogits A B))) i
  rw [hj, rBalance_at, ofBits_64, ofBits_aux]
  have hC : ∀ e : Fin 64, rMean (rMask (rIdx (rProbs (rLogits A B)))) (ix1 e)
      = Ideal.div (∑ T : Fin 8192, taken A B T e) ((8192 : ℝ) : EReal) := fun e => by
    rw [rMean_at, ofBits_8192]
    exact congrArg (Ideal.div · _) (Finset.sum_congr rfl fun T _ => rMask_eq A B hA T e)
  have hP : ∀ e : Fin 64, rMean (rProbs (rLogits A B)) (ix1 e)
      = Ideal.div (∑ T : Fin 8192, prob (tok A B T) e) ((8192 : ℝ) : EReal) := fun e => by
    rw [rMean_at, ofBits_8192]
    exact congrArg (Ideal.div · _) (Finset.sum_congr rfl fun T _ => congrFun (row_rProbs A B T) e)
  simp only [hC, hP]
  rfl

/-- The fifth result: the z-loss. -/
theorem ref_z : shapeCast S1x1 (rZ (rLse (rLogits A B))) shapeCasts_S_S1x1 = outZ A B := by
  funext i
  obtain ⟨j, hj⟩ := scalar_at (rZ (rLse (rLogits A B))) i
  rw [hj, rZ_at, ofBits_8192, ofBits_z]
  simp only [rLse_at, row_rLogits]
  rfl

end Cert.ReferenceIdeal.Read
-- ==== Proof.RefValue.lean ====
/-
  The reference's run: each of its five results as a function of the arguments.
-/
module

public import proofs.«01_k».proof.Proof.RefRead

@[expose] public section

set_option synthInstance.maxSize 4096
set_option maxRecDepth 16384

noncomputable section

namespace Cert.ReferenceIdeal.Read

open Idealize.ShloMosaic Idealize.ShloMosaic.TcCoe Idealize.SL.Sem Cert.ReferenceIdeal Cert.ReferenceIdeal.Gen Cert.Router

variable (m : (ℓ : Loc nD τ sig) → Buf (Elt Ideal) ℓ)

/-- The first argument on device `c`. -/
abbrev hidden (c : Dev nD) : FVec Ideal S2x4096x4096 .f32 := m ((c.tc : Thread nD τ).loc main_arg0)

/-- The second argument on device `c`. -/
abbrev gate (c : Dev nD) : FVec Ideal S64x4096 .f32 := m ((c.tc : Thread nD τ).loc main_arg1)

/-- The second result's term is the chain's routing weights. -/
theorem v44_eq (c : Dev nD) : Value.res_main_v44 m c
    = transpose S8x8192 [1, 0] (rWeights (rTop (rProbs (rLogits (hidden m c) (gate m c))))) transposes_S8192x8_S8x8192_1_0 := by
  unfold Value.res_main_v44
  rfl

/-- The fourth result's term is the chain's load-balancing loss. -/
theorem v46_eq (c : Dev nD) : Value.res_main_v46 m c
    = shapeCast S1x1 (rBalance (rMask (rIdx (rProbs (rLogits (hidden m c) (gate m c))))) (rProbs (rLogits (hidden m c) (gate m c)))) shapeCasts_S_S1x1 := by
  unfold Value.res_main_v46
  rfl

/-- Where all logits are real the reference leaves the five results. -/
theorem run_out (ρ : Dev nD → PrngReg) (hA : ∀ (c : Dev nD) T e, IsReal (tok (hidden m c) (gate m c) T e)) :
    θ_run defs (onTc (τ := τ) (main (F := Ideal))) ⟨m, fun _ => 0, ρ⟩ fun r => ∀ c : Dev nD,
      r.2.mem ((c.tc : Thread nD τ).loc main_v43) = outProbs (hidden m c) (gate m c)
      ∧ r.2.mem ((c.tc : Thread nD τ).loc main_v44) = outWeights (hidden m c) (gate m c)
      ∧ r.2.mem ((c.tc : Thread nD τ).loc main_v45) = outExperts (hidden m c) (gate m c)
      ∧ r.2.mem ((c.tc : Thread nD τ).loc main_v46) = outBalance (hidden m c) (gate m c)
      ∧ r.2.mem ((c.tc : Thread nD τ).loc main_v47) = outZ (hidden m c) (gate m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (ref_probs (hidden m c) (gate m c)),
     (h c).2.1.trans ((v44_eq m c).trans (ref_weights _ _ (hA c))),
     (h c).2.2.1.trans (ref_experts _ _ (hA c)),
     (h c).2.2.2.1.trans ((v46_eq m c).trans (ref_balance _ _ (hA c))),
     (h c).2.2.2.2.1.trans (ref_z (hidden m c) (gate m c)),
     (h c).2.2.2.2.2⟩)
    (Value.run m ρ)

end Cert.ReferenceIdeal.Read

end
-- ==== Proof.Finite.lean ====
/-
  The precondition: the argument arrays it holds of have real entries, so every logit is a real number.
-/
module

public import proofs.«01_k».proof.Pre_finite
public import proofs.«01_k».proof.Proof.Results
public import Idealize.ShloMosaic.Lib.ReduceAll

@[expose] public section

set_option maxRecDepth 16384

noncomputable section

namespace Cert.Pre_finite

open Idealize.ShloMosaic Cert.Router

/-- The shape relations that the precondition's operations take. -/
theorem facts : Facts where
  bcast_S_S2x4096x4096 := by decide
  reducesTo_S2x4096x4096_S_d0_1_2 := by decide
  h_S_ := by decide
  bcast_S_S64x4096 := by decide
  reducesTo_S64x4096_S_d0_1 := by decide

/-- An entry whose absolute value compares below infinity is real. -/
theorem isReal_of_cmp {x : EReal} (h : BitVec.ofBool (decide (max x (-x) < Ideal.ofBits .f32 0x7F800000#32)) = 1#1) : IsReal x := by
  rw [ofBits_inf] at h
  refine isReal_of_abs_lt ?_
  by_contra hn
  rw [decide_eq_false hn] at h
  exact absurd h (by decide)

variable [Facts]

/-- The precondition says that every entry of both arrays is real. -/
theorem entries (A : FVec Ideal S2x4096x4096 .f32) (B : FVec Ideal S64x4096 .f32) (h : fn (F := Ideal) A B = fun _ => 1#1) :
    (∀ i, IsReal (A i)) ∧ ∀ i, IsReal (B i) := by
  have h0 := congrFun h (fun a => nomatch a)
  haveI : Subsingleton S_.Idx := ⟨fun _ _ => funext fun a => nomatch a⟩
  obtain ⟨h1, h2⟩ := IntOp.andi_eq_one.1 h0
  exact ⟨fun i => isReal_of_cmp (Host.reduce_andi_all _ _ _ _ _ h1 i),
    fun i => isReal_of_cmp (Host.reduce_andi_all _ _ _ _ _ h2 i)⟩

/-- So every logit is real. -/
theorem logits (A : FVec Ideal S2x4096x4096 .f32) (B : FVec Ideal S64x4096 .f32) (h : fn (F := Ideal) A B = fun _ => 1#1)
    (T : Fin 8192) (e : Fin 64) : IsReal (tok A B T e) := by
  obtain ⟨hA, hB⟩ := entries A B h
  unfold tok
  exact IsReal.sum _ fun k _ => (hA _).mul (hB _)

end Cert.Pre_finite

end
-- ==== Proof.lean ====
/-
  The proof of the certificate's claims: the three programs run, keep their arguments and end quiescent; the kernel and
  the reference leave equal results where the precondition holds.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Arrays
public import proofs.«01_k».proof.Proof.RefValue
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments and ends quiescent. -/
theorem frame_reference : Cert.quiescent_ReferenceIdeal (hReferenceIdeal := Cert.ReferenceIdeal.Gen.facts) := by
  intro m g _
  exact (θ_run _ _ _).mono (fun r h => ⟨fun c => (h c).2.2.2.2.2, sem_eq_zero_of_no_sems (by decide) r.2⟩)
    (Cert.ReferenceIdeal.Value.run m g)

/-- The kernel and the reference leave equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  haveI := Cert.Pre_finite.facts
  have hA : ∀ (c : Dev Cert.KernelIdeal.nD) T e, Cert.Router.IsReal
      (Cert.Router.tok (Cert.KernelIdeal.Arrays.hidden m c) (Cert.KernelIdeal.Arrays.gate m c) T e) :=
    fun c T e => Cert.Pre_finite.logits _ _ (hpre c) T e
  have e0 : ∀ c : Dev Cert.KernelIdeal.nD, Cert.ReferenceIdeal.Read.hidden m' c = Cert.KernelIdeal.Arrays.hidden m c := fun c => (hagree c).1
  have e1 : ∀ c : Dev Cert.KernelIdeal.nD, Cert.ReferenceIdeal.Read.gate m' c = Cert.KernelIdeal.Arrays.gate m c := fun c => (hagree c).2
  have hA' : ∀ (c : Dev Cert.ReferenceIdeal.nD) T e, Cert.Router.IsReal
      (Cert.Router.tok (Cert.ReferenceIdeal.Read.hidden m' c) (Cert.ReferenceIdeal.Read.gate m' c) T e) := fun c T e => by
    have h := hA c T e
    rw [← e0 c, ← e1 c] at h
    exact h
  refine ⟨_, _, _, _, _, Cert.KernelIdeal.Arrays.run_out m hA g, ?_⟩
  have hr := Cert.ReferenceIdeal.Read.run_out m' g' hA'
  refine (θ_run _ _ _).mono (fun r h c => ?_) hr
  have hc := h c
  rw [e0 c, e1 c] at hc
  exact hc

/-- All claims of the certificate. -/
theorem claim : Cert.Claim :=
  ⟨Cert.Kernel.Gen.facts, Cert.KernelIdeal.Gen.facts, Cert.ReferenceIdeal.Gen.facts, Cert.Pre_finite.facts,
    fun m g _ => Cert.Kernel.Gen.frame m g, fun m g _ => Cert.KernelIdeal.Gen.frame m g, fun m g _ => Cert.KernelIdeal.Gen.frame m g,
    frame_reference, fun m g _ => frame_reference m g trivial, trivial, algebraic⟩

end Cert.Proof

end
